-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x1792 : Shape := ⟨2, ![1024, 1792]⟩
abbrev S1024x2048x64 : Shape := ⟨3, ![1024, 2048, 64]⟩
abbrev S1024x2048 : Shape := ⟨2, ![1024, 2048]⟩
abbrev S1792x128 : Shape := ⟨2, ![1792, 128]⟩
abbrev S64x128 : Shape := ⟨2, ![64, 128]⟩
abbrev S64x64 : Shape := ⟨2, ![64, 64]⟩
abbrev S_ : Shape := ⟨0, ![]⟩

class Facts : Prop where
  bcast_S_S1024x1792 : S_.BroadcastsInDim S1024x1792 (![] : Fin 0 → Fin S1024x1792.rank)
  reducesTo_S1024x1792_S_d0_1 : S1024x1792.ReducesTo [0, 1] S_
  h_S_ : 0 < S_.numel
  bcast_S_S1024x2048x64 : S_.BroadcastsInDim S1024x2048x64 (![] : Fin 0 → Fin S1024x2048x64.rank)
  reducesTo_S1024x2048x64_S_d0_1_2 : S1024x2048x64.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1792x128 : S_.BroadcastsInDim S1792x128 (![] : Fin 0 → Fin S1792x128.rank)
  reducesTo_S1792x128_S_d0_1 : S1792x128.ReducesTo [0, 1] S_
  bcast_S_S64x128 : S_.BroadcastsInDim S64x128 (![] : Fin 0 → Fin S64x128.rank)
  reducesTo_S64x128_S_d0_1 : S64x128.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x128 .f32) (main_arg5 : FVec F S64x64 .f32) (main_v13 : IVec S_ 1) (main_v16 : IVec S1792x128 1) : IVec S_ 1 :=
  let main_c_5 : IVec S_ 1 := constantI S_ 1 1#1
  let main_v17 : IVec S_ 1 := (fun x v => Host.reduce IntOp.andi x v reducesTo_S1792x128_S_d0_1 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : FVec F S1024x1792 .f32) (main_arg1 : FVec F S1024x2048x64 .f32) (main_arg2 : FVec F S1024x2048 .f32) (main_arg3 : FVec F S1792x128 .f32) (main_arg4 : FVec F S64x128 .f32) (main_arg5 : FVec F S64x64 .f32) : IVec S_ 1 :=
  let main_v0 : FVec F S1024x1792 .f32 := Host.absf main_arg0
  let main_cst : FVec F S_ .f32 := constant S_ .f32 0x7F800000#32
  let main_v1 : FVec F S1024x1792 .f32 := broadcastInDim S1024x1792 ![] bcast_S_S1024x1792 main_cst
  let main_v2 : IVec S1024x1792 1 := cmpf .olt main_v0 main_v1
  let main_c : IVec S_ 1 := constantI S_ 1 1#1
  let main_v3 : IVec S_ 1 := (fun x v => Host.reduce IntOp.andi x v reducesTo_S1024x1792_S_d0_1 h_S_) main_v2 main_c
  let main_v4 : FVec F S1024x2048x64 .f32 := Host.absf main_arg1
  let main_cst_0 : FVec F S_ .f32 := constant S_ .f32 0x7F800000#32
  let main_v5 : FVec F S1024x2048x64 .f32 := broadcastInDim S1024x2048x64 ![] bcast_S_S1024x2048x64 main_cst_0
  let main_v6 : IVec S1024x2048x64 1 := cmpf .olt main_v4 main_v5
  let main_c_1 : IVec S_ 1 := constantI S_ 1 1#1
  let main_v7 : IVec S_ 1 := (fun x v => Host.reduce IntOp.andi x v reducesTo_S1024x2048x64_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1792x128 .f32 := Host.absf main_arg3
  let main_cst_4 : FVec F S_ .f32 := constant S_ .f32 0x7F800000#32
  let main_v15 : FVec F S1792x128 .f32 := broadcastInDim S1792x128 ![] bcast_S_S1792x128 main_cst_4
  let main_v16 : IVec S1792x128 1 := cmpf .olt main_v14 main_v15
  fn_part1 (F := F) main_arg4 main_arg5 main_v13 main_v16
-- ==== Kernel.lean ====
abbrev S1024x1792 : Shape := ⟨2, ![1024, 1792]⟩
abbrev S1024x2048x64 : Shape := ⟨3, ![1024, 2048, 64]⟩
abbrev S1024x2048 : Shape := ⟨2, ![1024, 2048]⟩
abbrev S1792x128 : Shape := ⟨2, ![1792, 128]⟩
abbrev S64x128 : Shape := ⟨2, ![64, 128]⟩
abbrev S64x64 : Shape := ⟨2, ![64, 64]⟩
abbrev S1024x64 : Shape := ⟨2, ![1024, 64]⟩
abbrev S8192x8 : Shape := ⟨2, ![8192, 8]⟩
abbrev S1024x8x8 : Shape := ⟨3, ![1024, 8, 8]⟩
abbrev S16x1792 : Shape := ⟨2, ![16, 1792]⟩
abbrev S16x2048 : Shape := ⟨2, ![16, 2048]⟩
abbrev S16x64 : Shape := ⟨2, ![16, 64]⟩
abbrev S128x8 : Shape := ⟨2, ![128, 8]⟩
abbrev S128x2048 : Shape := ⟨2, ![128, 2048]⟩
abbrev S3x16x2048x64 : Shape := ⟨4, ![3, 16, 2048, 64]⟩
abbrev S3 : Shape := ⟨1, ![3]⟩
abbrev S1 : Shape := ⟨1, ![1]⟩
abbrev S_ : Shape := ⟨0, ![]⟩
abbrev S1x16x2048x64 : Shape := ⟨4, ![1, 16, 2048, 64]⟩
abbrev S16x2048x64 : Shape := ⟨3, ![16, 2048, 64]⟩
abbrev S16x128 : Shape := ⟨2, ![16, 128]⟩
abbrev S128x128 : Shape := ⟨2, ![128, 128]⟩
abbrev S16x1x128 : Shape := ⟨3, ![16, 1, 128]⟩
abbrev S16x8x128 : Shape := ⟨3, ![16, 8, 128]⟩
abbrev S1x4x2048x64 : Shape := ⟨4, ![1, 4, 2048, 64]⟩
abbrev S4x2048x64 : Shape := ⟨3, ![4, 2048, 64]⟩
abbrev S8192x64 : Shape := ⟨2, ![8192, 64]⟩
abbrev S8192x128 : Shape := ⟨2, ![8192, 128]⟩
abbrev S8x128 : Shape := ⟨2, ![8, 128]⟩
abbrev S2048x128 : Shape := ⟨2, ![2048, 128]⟩
abbrev S8x2048 : Shape := ⟨2, ![8, 2048]⟩
abbrev S1x2048 : Shape := ⟨2, ![1, 2048]⟩
abbrev S128 : Shape := ⟨1, ![128]⟩
abbrev S128x1 : Shape := ⟨2, ![128, 1]⟩
abbrev S1x1x2048x64 : Shape := ⟨4, ![1, 1, 2048, 64]⟩
abbrev S2048x64 : Shape := ⟨2, ![2048, 64]⟩
abbrev S8x64 : Shape := ⟨2, ![8, 64]⟩
abbrev S128x64 : Shape := ⟨2, ![128, 64]⟩

abbrev nBuf : Space → Nat
  | .hbm => 11
  | .vmem => 15
  | .smem => 0
  | _ => 0

abbrev bufTy : (tb : Table) → Fin (tcTables nBuf tb) → BufTy
  | .hbm, ⟨0, _⟩ => ⟨S1024x1792, .f32⟩
  | .hbm, ⟨1, _⟩ => ⟨S1024x2048x64, .f32⟩
  | .hbm, ⟨2, _⟩ => ⟨S1024x2048, .f32⟩
  | .hbm, ⟨3, _⟩ => ⟨S1792x128, .f32⟩
  | .hbm, ⟨4, _⟩ => ⟨S64x128, .f32⟩
  | .hbm, ⟨5, _⟩ => ⟨S64x64, .f32⟩
  | .hbm, ⟨6, _⟩ => ⟨S1024x64, .f32⟩
  | .hbm, ⟨7, _⟩ => ⟨S8192x8, .f32⟩
  | .hbm, ⟨8, _⟩ => ⟨S8192x8, .i32⟩
  | .hbm, ⟨9, _⟩ => ⟨S1024x8x8, .f32⟩
  | .hbm, ⟨10, _⟩ => ⟨S1024x8x8, .i32⟩
  | .local _ .vmem, ⟨0, _⟩ => ⟨S16x1792, .f32⟩
  | .local _ .vmem, ⟨1, _⟩ => ⟨S16x1792, .f32⟩
  | .local _ .vmem, ⟨2, _⟩ => ⟨S16x2048, .f32⟩
  | .local _ .vmem, ⟨3, _⟩ => ⟨S16x2048, .f32⟩
  | .local _ .vmem, ⟨4, _⟩ => ⟨S1792x128, .f32⟩
  | .local _ .vmem, ⟨5, _⟩ => ⟨S64x128, .f32⟩
  | .local _ .vmem, ⟨6, _⟩ => ⟨S64x64, .f32⟩
  | .local _ .vmem, ⟨7, _⟩ => ⟨S16x64, .f32⟩
  | .local _ .vmem, ⟨8, _⟩ => ⟨S16x64, .f32⟩
  | .local _ .vmem, ⟨9, _⟩ => ⟨S128x8, .f32⟩
  | .local _ .vmem, ⟨10, _⟩ => ⟨S128x8, .f32⟩
  | .local _ .vmem, ⟨11, _⟩ => ⟨S128x8, .i32⟩
  | .local _ .vmem, ⟨12, _⟩ => ⟨S128x8, .i32⟩
  | .local _ .vmem, ⟨13, _⟩ => ⟨S128x2048, .f32⟩
  | .local _ .vmem, ⟨14, _⟩ => ⟨S3x16x2048x64, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_call0_v0_1 : Ref sig .tc := ⟨.hbm, 7, rfl⟩
abbrev main_call0_v0_2 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def k0_off1 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off2 (i : grid0.Coords) : Fin 4 → Nat :=
  let arg0 : BitVec 32 := BitVec.ofNat 32 (i 0).val
  let c3_i32 : BitVec 32 := 3#32
  let v0 : BitVec 32 := Scalar.remsi arg0 c3_i32
  let c0_i32_1 : BitVec 32 := 0#32
  let c0_i32_2 : BitVec 32 := 0#32
  let c0_i32_3 : BitVec 32 := 0#32
  ![v0.toNat, 0, 0, 0]
def k0_off3 (i : grid0.Coords) : Fin 3 → Nat :=
  let arg0 : BitVec 32 := BitVec.ofNat 32 (i 0).val
  let c16_i32 : BitVec 32 := 16#32
  let v4 : BitVec 32 := Scalar.muli arg0 c16_i32
  let c0_i32_4 : BitVec 32 := 0#32
  let c0_i32_5 : BitVec 32 := 0#32
  ![v4.toNat, 0, 0]
def k0_off4 (i : grid0.Coords) : Fin 4 → Nat :=
  let arg0 : BitVec 32 := BitVec.ofNat 32 (i 0).val
  let c3_i32 : BitVec 32 := 3#32
  let v0 : BitVec 32 := Scalar.remsi arg0 c3_i32
  let v64 : Index := Scalar.indexCast v0
  let c0_23 : Index := 0#32
  let c0_24 : Index := 0#32
  let c0_25 : Index := 0#32
  ![v64.toNat, 0, 0, 0]
def k0_off5 (i : grid0.Coords) : Fin 4 → Nat :=
  let arg0 : BitVec 32 := BitVec.ofNat 32 (i 0).val
  let c3_i32 : BitVec 32 := 3#32
  let v0 : BitVec 32 := Scalar.remsi arg0 c3_i32
  let v122 : Index := Scalar.indexCast v0
  let c4 : Index := 4#32
  let c0_49 : Index := 0#32
  let c0_50 : Index := 0#32
  ![v122.toNat, 4, 0, 0]
def k0_off6 (i : grid0.Coords) : Fin 4 → Nat :=
  let arg0 : BitVec 32 := BitVec.ofNat 32 (i 0).val
  let c3_i32 : BitVec 32 := 3#32
  let v0 : BitVec 32 := Scalar.remsi arg0 c3_i32
  let v180 : Index := Scalar.indexCast v0
  let c8_73 : Index := 8#32
  let c0_74 : Index := 0#32
  let c0_75 : Index := 0#32
  ![v180.toNat, 8, 0, 0]
def k0_off7 (i : grid0.Coords) : Fin 4 → Nat :=
  let arg0 : BitVec 32 := BitVec.ofNat 32 (i 0).val
  let c3_i32 : BitVec 32 := 3#32
  let v0 : BitVec 32 := Scalar.remsi arg0 c3_i32
  let v238 : Index := Scalar.indexCast v0
  let c12 : Index := 12#32
  let c0_98 : Index := 0#32
  let c0_99 : Index := 0#32
  ![v238.toNat, 12, 0, 0]
def k0_off8 (i : grid0.Coords) : Fin 4 → Nat :=
  let arg0 : BitVec 32 := BitVec.ofNat 32 (i 0).val
  let c3_i32 : BitVec 32 := 3#32
  let v0 : BitVec 32 := Scalar.remsi arg0 c3_i32
  let v475 : Index := Scalar.indexCast v0
  let c0_169 : Index := 0#32
  let c0_170 : Index := 0#32
  let c0_171 : Index := 0#32
  ![v475.toNat, 0, 0, 0]
def k0_off9 (i : grid0.Coords) : Fin 4 → Nat :=
  let arg0 : BitVec 32 := BitVec.ofNat 32 (i 0).val
  let c3_i32 : BitVec 32 := 3#32
  let v0 : BitVec 32 := Scalar.remsi arg0 c3_i32
  let v480 : Index := Scalar.indexCast v0
  let c1_173 : Index := 1#32
  let c0_174 : Index := 0#32
  let c0_175 : Index := 0#32
  ![v480.toNat, 1, 0, 0]
def k0_off10 (i : grid0.Coords) : Fin 4 → Nat :=
  let arg0 : BitVec 32 := BitVec.ofNat 32 (i 0).val
  let c3_i32 : BitVec 32 := 3#32
  let v0 : BitVec 32 := Scalar.remsi arg0 c3_i32
  let v485 : Index := Scalar.indexCast v0
  let c2_177 : Index := 2#32
  let c0_178 : Index := 0#32
  let c0_179 : Index := 0#32
  ![v485.toNat, 2, 0, 0]
def k0_off11 (i : grid0.Coords) : Fin 4 → Nat :=
  let arg0 : BitVec 32 := BitVec.ofNat 32 (i 0).val
  let c3_i32 : BitVec 32 := 3#32
  let v0 : BitVec 32 := Scalar.remsi arg0 c3_i32
  let v490 : Index := Scalar.indexCast v0
  let c3_181 : Index := 3#32
  let c0_182 : Index := 0#32
  let c0_183 : Index := 0#32
  ![v490.toNat, 3, 0, 0]
def k0_off12 (i : grid0.Coords) : Fin 4 → Nat :=
  let arg0 : BitVec 32 := BitVec.ofNat 32 (i 0).val
  let c3_i32 : BitVec 32 := 3#32
  let v0 : BitVec 32 := Scalar.remsi arg0 c3_i32
  let v495 : Index := Scalar.indexCast v0
  let c4_185 : Index := 4#32
  let c0_186 : Index := 0#32
  let c0_187 : Index := 0#32
  ![v495.toNat, 4, 0, 0]
def k0_off13 (i : grid0.Coords) : Fin 4 → Nat :=
  let arg0 : BitVec 32 := BitVec.ofNat 32 (i 0).val
  let c3_i32 : BitVec 32 := 3#32
  let v0 : BitVec 32 := Scalar.remsi arg0 c3_i32
  let v500 : Index := Scalar.indexCast v0
  let c5_189 : Index := 5#32
  let c0_190 : Index := 0#32
  let c0_191 : Index := 0#32
  ![v500.toNat, 5, 0, 0]
def k0_off14 (i : grid0.Coords) : Fin 4 → Nat :=
  let arg0 : BitVec 32 := BitVec.ofNat 32 (i 0).val
  let c3_i32 : BitVec 32 := 3#32
  let v0 : BitVec 32 := Scalar.remsi arg0 c3_i32
  let v505 : Index := Scalar.indexCast v0
  let c6_193 : Index := 6#32
  let c0_194 : Index := 0#32
  let c0_195 : Index := 0#32
  ![v505.toNat, 6, 0, 0]
def k0_off15 (i : grid0.Coords) : Fin 4 → Nat :=
  let arg0 : BitVec 32 := BitVec.ofNat 32 (i 0).val
  let c3_i32 : BitVec 32 := 3#32
  let v0 : BitVec 32 := Scalar.remsi arg0 c3_i32
  let v510 : Index := Scalar.indexCast v0
  let c7_197 : Index := 7#32
  let c0_198 : Index := 0#32
  let c0_199 : Index := 0#32
  ![v510.toNat, 7, 0, 0]
def k0_off16 (i : grid0.Coords) : Fin 4 → Nat :=
  let arg0 : BitVec 32 := BitVec.ofNat 32 (i 0).val
  let c3_i32 : BitVec 32 := 3#32
  let v0 : BitVec 32 := Scalar.remsi arg0 c3_i32
  let v515 : Index := Scalar.indexCast v0
  let c8_201 : Index := 8#32
  let c0_202 : Index := 0#32
  let c0_203 : Index := 0#32
  ![v515.toNat, 8, 0, 0]
def k0_off17 (i : grid0.Coords) : Fin 4 → Nat :=
  let arg0 : BitVec 32 := BitVec.ofNat 32 (i 0).val
  let c3_i32 : BitVec 32 := 3#32
  let v0 : BitVec 32 := Scalar.remsi arg0 c3_i32
  let v520 : Index := Scalar.indexCast v0
  let c9_205 : Index := 9#32
  let c0_206 : Index := 0#32
  let c0_207 : Index := 0#32
  ![v520.toNat, 9, 0, 0]
def k0_off18 (i : grid0.Coords) : Fin 4 → Nat :=
  let arg0 : BitVec 32 := BitVec.ofNat 32 (i 0).val
  let c3_i32 : BitVec 32 := 3#32
  let v0 : BitVec 32 := Scalar.remsi arg0 c3_i32
  let v525 : Index := Scalar.indexCast v0
  let c10_209 : Index := 10#32
  let c0_210 : Index := 0#32
  let c0_211 : Index := 0#32
  ![v525.toNat, 10, 0, 0]
def k0_off19 (i : grid0.Coords) : Fin 4 → Nat :=
  let arg0 : BitVec 32 := BitVec.ofNat 32 (i 0).val
  let c3_i32 : BitVec 32 := 3#32
  let v0 : BitVec 32 := Scalar.remsi arg0 c3_i32
  let v530 : Index := Scalar.indexCast v0
  let c11_213 : Index := 11#32
  let c0_214 : Index := 0#32
  let c0_215 : Index := 0#32
  ![v530.toNat, 11, 0, 0]
def k0_off20 (i : grid0.Coords) : Fin 4 → Nat :=
  let arg0 : BitVec 32 := BitVec.ofNat 32 (i 0).val
  let c3_i32 : BitVec 32 := 3#32
  let v0 : BitVec 32 := Scalar.remsi arg0 c3_i32
  let v535 : Index := Scalar.indexCast v0
  let c12_217 : Index := 12#32
  let c0_218 : Index := 0#32
  let c0_219 : Index := 0#32
  ![v535.toNat, 12, 0, 0]
def k0_off21 (i : grid0.Coords) : Fin 4 → Nat :=
  let arg0 : BitVec 32 := BitVec.ofNat 32 (i 0).val
  let c3_i32 : BitVec 32 := 3#32
  let v0 : BitVec 32 := Scalar.remsi arg0 c3_i32
  let v540 : Index := Scalar.indexCast v0
  let c13_221 : Index := 13#32
  let c0_222 : Index := 0#32
  let c0_223 : Index := 0#32
  ![v540.toNat, 13, 0, 0]
def k0_off22 (i : grid0.Coords) : Fin 4 → Nat :=
  let arg0 : BitVec 32 := BitVec.ofNat 32 (i 0).val
  let c3_i32 : BitVec 32 := 3#32
  let v0 : BitVec 32 := Scalar.remsi arg0 c3_i32
  let v545 : Index := Scalar.indexCast v0
  let c14_225 : Index := 14#32
  let c0_226 : Index := 0#32
  let c0_227 : Index := 0#32
  ![v545.toNat, 14, 0, 0]
def k0_off23 (i : grid0.Coords) : Fin 4 → Nat :=
  let arg0 : BitVec 32 := BitVec.ofNat 32 (i 0).val
  let c3_i32 : BitVec 32 := 3#32
  let v0 : BitVec 32 := Scalar.remsi arg0 c3_i32
  let v550 : Index := Scalar.indexCast v0
  let c15_229 : Index := 15#32
  let c0_230 : Index := 0#32
  let c0_231 : Index := 0#32
  ![v550.toNat, 15, 0, 0]
def k0_cond2 (i : grid0.Coords) : BitVec 1 :=
  let arg0 : BitVec 32 := BitVec.ofNat 32 (i 0).val
  let c3_i32_262 : BitVec 32 := 3#32
  let v634 : BitVec 32 := Scalar.addi arg0 c3_i32_262
  let c64_i32 : BitVec 32 := 64#32
  let v635 : BitVec 1 := Scalar.cmpi .slt v634 c64_i32
  let v636 : BitVec 32 := Scalar.extui v635
  let c0_i32_263 : BitVec 32 := 0#32
  let v637 : BitVec 1 := Scalar.cmpi .ne v636 c0_i32_263
  v637

def k0_off24 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off25 (i : grid0.Coords) : Fin 4 → Nat :=
  let arg0 : BitVec 32 := BitVec.ofNat 32 (i 0).val
  let c3_i32 : BitVec 32 := 3#32
  let v0 : BitVec 32 := Scalar.remsi arg0 c3_i32
  let c0_i32_266 : BitVec 32 := 0#32
  let c0_i32_267 : BitVec 32 := 0#32
  let c0_i32_268 : BitVec 32 := 0#32
  ![v0.toNat, 0, 0, 0]
def k0_off26 (i : grid0.Coords) : Fin 3 → Nat :=
  let arg0 : BitVec 32 := BitVec.ofNat 32 (i 0).val
  let c3_i32_264 : BitVec 32 := 3#32
  let v638 : BitVec 32 := Scalar.addi arg0 c3_i32_264
  let c16_i32_265 : BitVec 32 := 16#32
  let v639 : BitVec 32 := Scalar.muli v638 c16_i32_265
  let c0_i32_269 : BitVec 32 := 0#32
  let c0_i32_270 : BitVec 32 := 0#32
  ![v639.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1024x1792 : Shape := ⟨2, ![1024, 1792]⟩
abbrev S1024x2048x64 : Shape := ⟨3, ![1024, 2048, 64]⟩
abbrev S1024x2048 : Shape := ⟨2, ![1024, 2048]⟩
abbrev S1792x128 : Shape := ⟨2, ![1792, 128]⟩
abbrev S64x128 : Shape := ⟨2, ![64, 128]⟩
abbrev S64x64 : Shape := ⟨2, ![64, 64]⟩
abbrev S1024x128 : Shape := ⟨2, ![1024, 128]⟩
abbrev S1024x8x16 : Shape := ⟨3, ![1024, 8, 16]⟩
abbrev S1024x2048x128 : Shape := ⟨3, ![1024, 2048, 128]⟩
abbrev S1024x2048x8x16 : Shape := ⟨4, ![1024, 2048, 8, 16]⟩
abbrev S1024x8x2048x16 : Shape := ⟨4, ![1024, 8, 2048, 16]⟩
abbrev S1024x8x2048 : Shape := ⟨3, ![1024, 8, 2048]⟩
abbrev S_ : Shape := ⟨0, ![]⟩
abbrev S1024x1x2048 : Shape := ⟨3, ![1024, 1, 2048]⟩
abbrev S1024x8x8 : Shape := ⟨3, ![1024, 8, 8]⟩
abbrev S1024x8 : Shape := ⟨2, ![1024, 8]⟩
abbrev S1024x8x1 : Shape := ⟨3, ![1024, 8, 1]⟩
abbrev S1024x2048x8x8 : Shape := ⟨4, ![1024, 2048, 8, 8]⟩
abbrev S1024x8x2048x8 : Shape := ⟨4, ![1024, 8, 2048, 8]⟩
abbrev S1024x8x8x1 : Shape := ⟨4, ![1024, 8, 8, 1]⟩
abbrev S1 : Shape := ⟨1, ![1]⟩
abbrev S1x1x1x1 : Shape := ⟨4, ![1, 1, 1, 1]⟩
abbrev S1024x8x8x8 : Shape := ⟨4, ![1024, 8, 8, 8]⟩
abbrev S1024x64 : Shape := ⟨2, ![1024, 64]⟩

abbrev nBuf : Space → Nat
  | .hbm => 65
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S1024x2048x64, .f32⟩
  | .hbm, ⟨2, _⟩ => ⟨S1024x2048, .f32⟩
  | .hbm, ⟨3, _⟩ => ⟨S1792x128, .f32⟩
  | .hbm, ⟨4, _⟩ => ⟨S64x128, .f32⟩
  | .hbm, ⟨5, _⟩ => ⟨S64x64, .f32⟩
  | .hbm, ⟨6, _⟩ => ⟨S1024x128, .f32⟩
  | .hbm, ⟨7, _⟩ => ⟨S1024x8x16, .f32⟩
  | .hbm, ⟨8, _⟩ => ⟨S1024x2048x128, .f32⟩
  | .hbm, ⟨9, _⟩ => ⟨S1024x2048x8x16, .f32⟩
  | .hbm, ⟨10, _⟩ => ⟨S1024x8x2048x16, .f32⟩
  | .hbm, ⟨11, _⟩ => ⟨S1024x8x2048, .f32⟩
  | .hbm, ⟨12, _⟩ => ⟨S_, .f32⟩
  | .hbm, ⟨13, _⟩ => ⟨S1024x8x2048, .f32⟩
  | .hbm, ⟨14, _⟩ => ⟨S1024x8x2048, .f32⟩
  | .hbm, ⟨15, _⟩ => ⟨S1024x1x2048, .f32⟩
  | .hbm, ⟨16, _⟩ => ⟨S_, .f32⟩
  | .hbm, ⟨17, _⟩ => ⟨S1024x1x2048, .f32⟩
  | .hbm, ⟨18, _⟩ => ⟨S1024x1x2048, .f32⟩
  | .hbm, ⟨19, _⟩ => ⟨S1024x8x2048, .f32⟩
  | .hbm, ⟨20, _⟩ => ⟨S1024x8x2048, .f32⟩
  | .hbm, ⟨21, _⟩ => ⟨S1024x8x8, .f32⟩
  | .hbm, ⟨22, _⟩ => ⟨S1024x8x8, .i32⟩
  | .hbm, ⟨23, _⟩ => ⟨S_, .f32⟩
  | .hbm, ⟨24, _⟩ => ⟨S1024x8, .f32⟩
  | .hbm, ⟨25, _⟩ => ⟨S_, .f32⟩
  | .hbm, ⟨26, _⟩ => ⟨S1024x8, .f32⟩
  | .hbm, ⟨27, _⟩ => ⟨S1024x8, .f32⟩
  | .hbm, ⟨28, _⟩ => ⟨S1024x8x1, .f32⟩
  | .hbm, ⟨29, _⟩ => ⟨S1024x8x8, .f32⟩
  | .hbm, ⟨30, _⟩ => ⟨S1024x8x8, .f32⟩
  | .hbm, ⟨31, _⟩ => ⟨S1024x8x8, .f32⟩
  | .hbm, ⟨32, _⟩ => ⟨S_, .f32⟩
  | .hbm, ⟨33, _⟩ => ⟨S1024x8, .f32⟩
  | .hbm, ⟨34, _⟩ => ⟨S1024x8x1, .f32⟩
  | .hbm, ⟨35, _⟩ => ⟨S1024x8x8, .f32⟩
  | .hbm, ⟨36, _⟩ => ⟨S1024x8x8, .f32⟩
  | .hbm, ⟨37, _⟩ => ⟨S1024x2048x64, .f32⟩
  | .hbm, ⟨38, _⟩ => ⟨S1024x2048x8x8, .f32⟩
  | .hbm, ⟨39, _⟩ => ⟨S1024x8x2048x8, .f32⟩
  | .hbm, ⟨40, _⟩ => ⟨S1024x8x8x1, .i32⟩
  | .hbm, ⟨41, _⟩ => ⟨S_, .i32⟩
  | .hbm, ⟨42, _⟩ => ⟨S1024x8x8x1, .i32⟩
  | .hbm, ⟨43, _⟩ => ⟨S1024x8x8x1, .i1⟩
  | .hbm, ⟨44, _⟩ => ⟨S_, .i32⟩
  | .hbm, ⟨45, _⟩ => ⟨S1024x8x8x1, .i32⟩
  | .hbm, ⟨46, _⟩ => ⟨S1024x8x8x1, .i32⟩
  | .hbm, ⟨47, _⟩ => ⟨S1024x8x8x1, .i32⟩
  | .hbm, ⟨48, _⟩ => ⟨S1, .i32⟩
  | .hbm, ⟨49, _⟩ => ⟨S_, .i32⟩
  | .hbm, ⟨50, _⟩ => ⟨S1024x8x8x1, .i32⟩
  | .hbm, ⟨51, _⟩ => ⟨S1024x8x8x1, .i1⟩
  | .hbm, ⟨52, _⟩ => ⟨S1x1x1x1, .i32⟩
  | .hbm, ⟨53, _⟩ => ⟨S1024x8x8x1, .i32⟩
  | .hbm, ⟨54, _⟩ => ⟨S1024x8x8x1, .i1⟩
  | .hbm, ⟨55, _⟩ => ⟨S1024x8x8x1, .i1⟩
  | .hbm, ⟨56, _⟩ => ⟨S_, .i1⟩
  | .hbm, ⟨57, _⟩ => ⟨S1024x8x8, .i1⟩
  | .hbm, ⟨58, _⟩ => ⟨S1024x8x8x8, .f32⟩
  | .hbm, ⟨59, _⟩ => ⟨S1024x8x8x8, .i1⟩
  | .hbm, ⟨60, _⟩ => ⟨S_, .f32⟩
  | .hbm, ⟨61, _⟩ => ⟨S1024x8x8x8, .f32⟩
  | .hbm, ⟨62, _⟩ => ⟨S1024x8x8x8, .f32⟩
  | .hbm, ⟨63, _⟩ => ⟨S1024x8x8, .f32⟩
  | .hbm, ⟨64, _⟩ => ⟨S1024x64, .f32⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_c_1 : Ref sig .tc := ⟨.hbm, 48, rfl⟩
abbrev main_call0_c_2 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_c_3 : Ref sig .tc := ⟨.hbm, 56, rfl⟩
abbrev main_call0_v11 : Ref sig .tc := ⟨.hbm, 57, rfl⟩
abbrev main_call0_v12 : Ref sig .tc := ⟨.hbm, 58, rfl⟩
abbrev main_call0_v13 : Ref sig .tc := ⟨.hbm, 59, rfl⟩
abbrev main_call0_cst : Ref sig .tc := ⟨.hbm, 60, rfl⟩
abbrev main_call0_v14 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩

abbrev nD : Nat := 1
abbrev τ : Topo := Topo.v7x

variable {F : FTy → Type} [FloatOps F]
-- ==== Proof.KernelIdealBody.lean ====
/-
  The kernel body of `KernelIdeal` at one grid point, run once for each of the three kinds of point.

  The kernel keeps the array of memories in HBM and streams it, sixteen batch rows at a time, through a buffer of three
  slots. Point 0 starts the copies of blocks 0, 1 and 2; every point waits for its own block, computes on it, and
  then starts the copy of the block three places on into the slot it has just used, as long as there is one.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.Tactic

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
abbrev 𝒱₀ : Variants := Variants.none

/-! ## Names for the blocks, the slots and their semaphores -/

/-- The array of memories, left in HBM. -/
abbrev memM : Memref sig .tc .hbm S1024x2048x64 .f32 := Memref.whole main_arg1
/-- The three-slot buffer the blocks pass through. -/
abbrev ringM : Memref sig .tc .vmem S3x16x2048x64 .f32 := Memref.whole cc0_scratch1
/-- The buffer of scores. -/
abbrev scoM : Memref sig .tc .vmem S128x2048 .f32 := Memref.whole cc0_scratch0

/-- Where block `b` of the memories starts, -/
abbrev blkOff (b : Fin 64) : Fin 3 → Nat := ![16 * b.val, 0, 0]
/-- and that it lies within them. -/
theorem blkOff_inb (b : Fin 64) : ∀ a, blkOff b a + S16x2048x64.size a ≤ S1024x2048x64.size a := by
  have := b.isLt; intro a; fin_cases a
  · show 16 * b.val + 16 ≤ 1024; omega
  · show 0 + 2048 ≤ 2048; omega
  · show 0 + 64 ≤ 64; omega
/-- Where slot `s` of the ring starts, -/
abbrev slotOff (s : Fin 3) : Fin 4 → Nat := ![s.val, 0, 0, 0]
/-- and that it lies within the ring. -/
theorem slotOff_inb (s : Fin 3) : ∀ a, slotOff s a + S1x16x2048x64.size a ≤ S3x16x2048x64.size a := by
  have := s.isLt; intro a; fin_cases a
  · show s.val + 1 ≤ 3; omega
  · show 0 + 16 ≤ 16; omega
  · show 0 + 2048 ≤ 2048; omega
  · show 0 + 64 ≤ 64; omega
/-- Where slot `s`'s semaphore is, -/
abbrev semOff (s : Fin 3) : Fin 1 → Nat := ![s.val]
/-- and that there is one. -/
theorem semOff_inb (s : Fin 3) : ∀ a, semOff s a + S1.size a ≤ S3.size a := by
  have := s.isLt; intro a; fin_cases a; show s.val + 1 ≤ 3; omega

/-- Block `b`: sixteen batch rows of the memories. -/
def blk (b : Fin 64) : Memref sig .tc .hbm S16x2048x64 .f32 :=
  memM.slice (Rect.unit (s := S1024x2048x64) (blkOff b) S16x2048x64.size (blkOff_inb b)) (fun _ => rfl)
/-- Slot `s` of the buffer. -/
def rslot (s : Fin 3) : Memref sig .tc .vmem S16x2048x64 .f32 :=
  (ringM.slice (Rect.unit (s := S3x16x2048x64) (slotOff s) S1x16x2048x64.size (slotOff_inb s)) (fun _ => rfl)).squeeze S16x2048x64 squeezes_S1x16x2048x64_S16x2048x64
/-- Slot `s`'s semaphore. -/
def csm (s : Fin 3) : DmaSems sig S_ :=
  (cc0_scratch2.slice (Rect.unit (s := S3) (semOff s) S1.size (semOff_inb s))).squeeze S_ squeezes_S1_S_

instance (s : Fin 3) : ClosedOff (slotOff s) := ⟨slotOff s, rfl⟩
instance (b : Fin 64) : ClosedOff (blkOff b) := ⟨blkOff b, rfl⟩

/-! ## The printed offsets in closed form -/

section Chain
variable (i : grid0.Coords)
open Affine

/-- There are sixty-four points. -/
theorem i_lt : (i 0).val < 64 := (i 0).isLt

/-- The point's number as a word, -/
theorem isInt_i : IsInt (BitVec.ofNat 32 (i 0).val) (i 0).val :=
  ofNat (e := ((i 0).val : Int)) (i 0).val ⟨rfl, by have := i_lt i; omega⟩
/-- its remainder by three as a word, -/
theorem isInt_rem : IsInt (Scalar.remsi (BitVec.ofNat 32 (i 0).val) 3#32) ((i 0).val % 3 : Nat) :=
  remsi (e := ((i 0).val % 3 : Nat)) (isInt_i i) (ofNat (e := 3) 3 ⟨rfl, by decide⟩) ⟨by omega, by omega, by omega⟩
/-- and the number three on. -/
theorem isInt_next : IsInt (Scalar.addi (BitVec.ofNat 32 (i 0).val) 3#32) ((i 0).val + 3 : Nat) :=
  addi (e := ((i 0).val + 3 : Nat)) (isInt_i i) (ofNat (e := 3) 3 ⟨rfl, by decide⟩) ⟨by push_cast; omega, by omega, by have := i_lt i; push_cast; omega⟩

/-- The awaited semaphore is that of the point's slot; -/
theorem off1_eq : k0_off1 i = semOff (Ring.sl 3 (i 0).val) := vec_cons (isInt_rem i) (by simp [Ring.sl, Fin.ofNat]) vec_nil
/-- so is the one the new copy raises. -/
theorem off24_eq : k0_off24 i = semOff (Ring.sl 3 (i 0).val) := vec_cons (isInt_rem i) (by simp [Ring.sl, Fin.ofNat]) vec_nil
/-- The awaited copy fills the point's slot; -/
theorem off2_eq : k0_off2 i = slotOff (Ring.sl 3 (i 0).val) := vec_cons (isInt_rem i) (by simp [Ring.sl, Fin.ofNat]) rfl
/-- so does the new one. -/
theorem off25_eq : k0_off25 i = slotOff (Ring.sl 3 (i 0).val) := vec_cons (isInt_rem i) (by simp [Ring.sl, Fin.ofNat]) rfl
/-- The awaited block is the point's; -/
theorem off3_eq : k0_off3 i = blkOff (Ring.bk 64 (i 0).val) :=
  vec_cons (muli (e := (16 * (i 0).val : Nat)) (isInt_i i) (ofNat (e := 16) 16 ⟨rfl, by decide⟩) ⟨by push_cast; omega, by omega, by have := i_lt i; push_cast; omega⟩)
    (by rw [Ring.bk_val (i_lt i)]) rfl
/-- the new one is the block three on. -/
theorem off26_eq (h : (i 0).val + 3 < 64) : k0_off26 i = blkOff (Ring.bk 64 ((i 0).val + 3)) :=
  vec_cons (muli (e := (16 * ((i 0).val + 3) : Nat)) (isInt_next i) (ofNat (e := 16) 16 ⟨rfl, by decide⟩) ⟨by push_cast; omega, by omega, by have := i_lt i; push_cast; omega⟩)
    (by rw [Ring.bk_val h]) rfl

/-- Row `r` of the slot in use, as the offset of a box in the whole buffer. -/
abbrev rowOff (i : grid0.Coords) (r : Nat) : Fin 4 → Nat := ![(Ring.sl 3 (i 0).val).val, r, 0, 0]

/-- A load from the ring starts at a row of the point's slot. -/
theorem rowOff_eq (r : Nat) : (![(Scalar.indexCast (Scalar.remsi (BitVec.ofNat 32 (i 0).val) 3#32)).toNat, r, 0, 0] : Fin 4 → Nat) = rowOff i r :=
  vec_cons (indexCast (isInt_rem i)) (by simp [Ring.sl, Fin.ofNat]) rfl

instance : ClosedOff (k0_off1 i) := ⟨_, off1_eq i⟩
instance : ClosedOff (k0_off2 i) := ⟨_, off2_eq i⟩
instance : ClosedOff (k0_off4 i) := ⟨rowOff i 0, rowOff_eq i 0⟩
instance : ClosedOff (k0_off5 i) := ⟨rowOff i 4, rowOff_eq i 4⟩
instance : ClosedOff (k0_off6 i) := ⟨rowOff i 8, rowOff_eq i 8⟩
instance : ClosedOff (k0_off7 i) := ⟨rowOff i 12, rowOff_eq i 12⟩
instance : ClosedOff (k0_off8 i) := ⟨rowOff i 0, rowOff_eq i 0⟩
instance : ClosedOff (k0_off9 i) := ⟨rowOff i 1, rowOff_eq i 1⟩
instance : ClosedOff (k0_off10 i) := ⟨rowOff i 2, rowOff_eq i 2⟩
instance : ClosedOff (k0_off11 i) := ⟨rowOff i 3, rowOff_eq i 3⟩
instance : ClosedOff (k0_off12 i) := ⟨rowOff i 4, rowOff_eq i 4⟩
instance : ClosedOff (k0_off13 i) := ⟨rowOff i 5, rowOff_eq i 5⟩
instance : ClosedOff (k0_off14 i) := ⟨rowOff i 6, rowOff_eq i 6⟩
instance : ClosedOff (k0_off15 i) := ⟨rowOff i 7, rowOff_eq i 7⟩
instance : ClosedOff (k0_off16 i) := ⟨rowOff i 8, rowOff_eq i 8⟩
instance : ClosedOff (k0_off17 i) := ⟨rowOff i 9, rowOff_eq i 9⟩
instance : ClosedOff (k0_off18 i) := ⟨rowOff i 10, rowOff_eq i 10⟩
instance : ClosedOff (k0_off19 i) := ⟨rowOff i 11, rowOff_eq i 11⟩
instance : ClosedOff (k0_off20 i) := ⟨rowOff i 12, rowOff_eq i 12⟩
instance : ClosedOff (k0_off21 i) := ⟨rowOff i 13, rowOff_eq i 13⟩
instance : ClosedOff (k0_off22 i) := ⟨rowOff i 14, rowOff_eq i 14⟩
instance : ClosedOff (k0_off23 i) := ⟨rowOff i 15, rowOff_eq i 15⟩

/-- The condition of the prologue, as the kernel computes it. -/
abbrev cond1 : BitVec 1 := Scalar.cmpi .ne (Scalar.extui (Scalar.cmpi .eq (BitVec.ofNat 32 (i 0).val) 0#32) : BitVec 32) 0#32

/-- The first copies are started at point zero. -/
theorem cond1_iff : cond1 i = 1#1 ↔ (i 0).val = 0 := by
  have h := i_lt i
  unfold cond1
  generalize (i 0).val = n at h ⊢
  revert n; decide
/-- A new copy is started while a block three on exists. -/
theorem cond2_iff : k0_cond2 i = 1#1 ↔ (i 0).val + 3 < 64 := by
  have h := i_lt i
  unfold k0_cond2
  generalize (i 0).val = n at h ⊢
  revert n; decide

end Chain

/-! ### The body's slices are those names -/

section Canon
variable (i : grid0.Coords)

/-- Semaphores at equal places are the same; -/
private theorem csm_congr {off : Fin 1 → Nat} {s : Fin 3} (e : off = semOff s) (hh) :
    (cc0_scratch2.slice (Rect.unit (s := S3) off S1.size hh)).squeeze S_ squeezes_S1_S_ = csm s := by subst e; rfl
/-- slots at equal places are the same; -/
private theorem rslot_congr {off : Fin 4 → Nat} {s : Fin 3} (e : off = slotOff s) (hh hs) :
    (ringM.slice (Rect.unit (s := S3x16x2048x64) off S1x16x2048x64.size hh) hs).squeeze S16x2048x64 squeezes_S1x16x2048x64_S16x2048x64 = rslot s := by subst e; rfl
/-- blocks at equal places are the same. -/
private theorem blk_congr {off : Fin 3 → Nat} {b : Fin 64} (e : off = blkOff b) (hh hs) :
    memM.slice (Rect.unit (s := S1024x2048x64) off S16x2048x64.size hh) hs = blk b := by subst e; rfl

/-- The semaphores of the first three copies, and below their slots and blocks, are the ring's own. -/
@[sl_canon] theorem semL0 (hh) : (cc0_scratch2.slice (Rect.unit (s := S3) ![0] S1.size hh)).squeeze S_ squeezes_S1_S_ = csm 0 := csm_congr (by decide) _
@[sl_canon] theorem semL1 (hh) : (cc0_scratch2.slice (Rect.unit (s := S3) ![1] S1.size hh)).squeeze S_ squeezes_S1_S_ = csm 1 := csm_congr (by decide) _
@[sl_canon] theorem semL2 (hh) : (cc0_scratch2.slice (Rect.unit (s := S3) ![2] S1.size hh)).squeeze S_ squeezes_S1_S_ = csm 2 := csm_congr (by decide) _
@[sl_canon] theorem slotL0 (hh hs) : (ringM.slice (Rect.unit (s := S3x16x2048x64) ![0, 0, 0, 0] S1x16x2048x64.size hh) hs).squeeze S16x2048x64 squeezes_S1x16x2048x64_S16x2048x64 = rslot 0 := rslot_congr (by decide) _ _
@[sl_canon] theorem slotL1 (hh hs) : (ringM.slice (Rect.unit (s := S3x16x2048x64) ![1, 0, 0, 0] S1x16x2048x64.size hh) hs).squeeze S16x2048x64 squeezes_S1x16x2048x64_S16x2048x64 = rslot 1 := rslot_congr (by decide) _ _
@[sl_canon] theorem slotL2 (hh hs) : (ringM.slice (Rect.unit (s := S3x16x2048x64) ![2, 0, 0, 0] S1x16x2048x64.size hh) hs).squeeze S16x2048x64 squeezes_S1x16x2048x64_S16x2048x64 = rslot 2 := rslot_congr (by decide) _ _
@[sl_canon] theorem blkL0 (hh hs) : memM.slice (Rect.unit (s := S1024x2048x64) ![0, 0, 0] S16x2048x64.size hh) hs = blk 0 := blk_congr (by decide) _ _
@[sl_canon] theorem blkL1 (hh hs) : memM.slice (Rect.unit (s := S1024x2048x64) ![16, 0, 0] S16x2048x64.size hh) hs = blk 1 := blk_congr (by decide) _ _
@[sl_canon] theorem blkL2 (hh hs) : memM.slice (Rect.unit (s := S1024x2048x64) ![32, 0, 0] S16x2048x64.size hh) hs = blk 2 := blk_congr (by decide) _ _

/-- The semaphores, slots and blocks of the awaited and of the new copy are the ring's own. -/
@[sl_canon] theorem semW (hh) : (cc0_scratch2.slice (Rect.unit (s := S3) (k0_off1 i) S1.size hh)).squeeze S_ squeezes_S1_S_ = csm (Ring.sl 3 (i 0).val) := csm_congr (off1_eq i) _
@[sl_canon] theorem semN (hh) : (cc0_scratch2.slice (Rect.unit (s := S3) (k0_off24 i) S1.size hh)).squeeze S_ squeezes_S1_S_ = csm (Ring.sl 3 (i 0).val) := csm_congr (off24_eq i) _
@[sl_canon] theorem slotW (hh hs) : (ringM.slice (Rect.unit (s := S3x16x2048x64) (k0_off2 i) S1x16x2048x64.size hh) hs).squeeze S16x2048x64 squeezes_S1x16x2048x64_S16x2048x64 = rslot (Ring.sl 3 (i 0).val) := rslot_congr (off2_eq i) _ _
@[sl_canon] theorem slotN (hh hs) : (ringM.slice (Rect.unit (s := S3x16x2048x64) (k0_off25 i) S1x16x2048x64.size hh) hs).squeeze S16x2048x64 squeezes_S1x16x2048x64_S16x2048x64 = rslot (Ring.sl 3 (i 0).val) := rslot_congr (off25_eq i) _ _
@[sl_canon] theorem blkW (hh hs) : memM.slice (Rect.unit (s := S1024x2048x64) (k0_off3 i) S16x2048x64.size hh) hs = blk (Ring.bk 64 (i 0).val) := blk_congr (off3_eq i) _ _
@[sl_canon] theorem blkN (h : (i 0).val + 3 < 64) (hh hs) : memM.slice (Rect.unit (s := S1024x2048x64) (k0_off26 i) S16x2048x64.size hh) hs = blk (Ring.bk 64 ((i 0).val + 3)) := blk_congr (off26_eq i h) _ _

end Canon

/-! ## What is held: a block at home, a slot, its semaphore, a copy on its way -/

section Pieces
variable (c : Dev nD) (XA : Buf (Elt F) (memM.view.loc (c : Thread nD τ)))

/-- Slot `s`'s semaphore at zero. -/
abbrev cellP (s : Fin 3) : sProp 𝕄 := semVal ((c : Thread nD τ), SemLoc.dma (csm s).sem) 0
/-- Slot `s` held at contents `f`. -/
abbrev slotP (s : Fin 3) (f : Buf (Elt F) ((rslot s).view.loc (c : Thread nD τ))) : sProp 𝕄 :=
  (rslot s).view.loc (c : Thread nD τ) ↦[(rslot s).view.set]{fullShare} f
/-- Block `b` of the memories held. -/
abbrev homeP (b : Fin 64) : sProp 𝕄 := (blk b).view.loc (c : Thread nD τ) ↦[(blk b).view.set]{fullShare} XA
/-- The words of block `b`. -/
abbrev payload (b : Fin 64) : S16x2048x64.Idx → Elt F .f32 := ReadAs.same.apply ((blk b).view.read (Elt F) XA)
/-- Slot `s` after block `b` has landed over `f`. -/
abbrev landed (s : Fin 3) (b : Fin 64) (f : Buf (Elt F) ((rslot s).view.loc (c : Thread nD τ))) : Buf (Elt F) ((rslot s).view.loc (c : Thread nD τ)) :=
  (rslot s).view.writes (Elt F) f [⟨Rect.whole S16x2048x64, payload c XA b⟩]
/-- The credit of one block's copy. -/
abbrev NN (s : Fin 3) : ℕ := 524288
/-- Slot `s` receiving block `b`, started over `f`. -/
abbrev flightP (s : Fin 3) (b : Fin 64) (f : Buf (Elt F) ((rslot s).view.loc (c : Thread nD τ))) : sProp 𝕄 :=
  Transfers.Flight countersEmb (c : Thread nD τ) (SemLoc.dma (csm s).sem) () (NN s) iprop(slotP c s (landed c XA s b f) ∗ homeP c XA b)

end Pieces

/-! ## One point -/

section Point
variable (c : Dev nD) (XA : Buf (Elt F) (memM.view.loc (c : Thread nD τ)))
  (i : grid0.Coords)
  (arg1 : Memref sig .tc .vmem S16x1792 .f32) (harg1 : arg1.IsWhole)
  (arg2 : Memref sig .tc .vmem S16x2048 .f32) (harg2 : arg2.IsWhole)
  (arg4 : Memref sig .tc .vmem S1792x128 .f32) (harg4 : arg4.IsWhole)
  (arg5 : Memref sig .tc .vmem S64x128 .f32) (harg5 : arg5.IsWhole)
  (arg6 : Memref sig .tc .vmem S64x64 .f32) (harg6 : arg6.IsWhole)
  (arg7 : Memref sig .tc .vmem S16x64 .f32) (harg7 : arg7.IsWhole)
  (arg8 : Memref sig .tc .vmem S128x8 .f32) (harg8 : arg8.IsWhole)
  (arg9 : Memref sig .tc .vmem S128x8 .i32) (harg9 : arg9.IsWhole)

/-- The body on the point's staging buffers. -/
abbrev bodyG : Prog (TpuEff nD τ sig (Elt F) Λ₀ .tc) PUnit :=
  cc0__router_kernel i arg1 harg1 arg2 harg2 memM (Memref.isWhole_whole _) arg4 harg4 arg5 harg5 arg6 harg6 arg7 harg7 arg8 harg8 arg9 harg9
    scoM (Memref.isWhole_whole _) ringM (Memref.isWhole_whole _) cc0_scratch2

/-- The buffer behind a reference is held, with contents `f`. -/
abbrev heldP {sp s e} (M : Memref sig .tc sp s e) (f : Buf (Elt F) (M.view.loc (c : Thread nD τ))) : sProp 𝕄 :=
  M.view.loc (c : Thread nD τ) ↦[M.view.set]{fullShare} f

variable (x1 : Vec F S16x1792 .f32) (x2 : Vec F S16x2048 .f32) (x4 : Vec F S1792x128 .f32) (x5 : Vec F S64x128 .f32) (x6 : Vec F S64x64 .f32)

/-- The five staged operands at their blocks. -/
def insP : sProp 𝕄 :=
  iprop(heldP c arg1 (arg1.view.rep x1) ∗ heldP c arg2 (arg2.view.rep x2) ∗ heldP c arg4 (arg4.view.rep x4)
    ∗ heldP c arg5 (arg5.view.rep x5) ∗ heldP c arg6 (arg6.view.rep x6))

/-- The whole block of read vectors. -/
abbrev RR : Rect S16x64 := Rect.unit (s := S16x64) ![0, 0] S16x64.size inb_S16x64_S16x64_0_0
/-- The whole block of weights or of indices. -/
abbrev RA : Rect S128x8 := Rect.unit (s := S128x8) ![0, 0] S128x8.size inb_S128x8_S128x8_0_0

set_option backward.proofsInPublic true in
set_option maxHeartbeats 4000000 in
/-- A point in the middle: the three blocks it stores, and that its body run from a copy under way to the slot's next one stores them. -/
def midRun (h0 : (i 0).val ≠ 0) (h3 : (i 0).val + 3 < 64)
    (g7 : Buf (Elt F) (arg7.view.loc (c : Thread nD τ))) (g8 : Buf (Elt F) (arg8.view.loc (c : Thread nD τ))) (g9 : Buf (Elt F) (arg9.view.loc (c : Thread nD τ))) :
    { w : ((RR).shape.Idx → Elt F .f32) × ((RA).shape.Idx → Elt F .f32) × ((RA).shape.Idx → Elt F .i32) //
      iprop(insP c arg1 arg2 arg4 arg5 arg6 x1 x2 x4 x5 x6 ∗ heldP c arg7 g7 ∗ heldP c arg8 g8 ∗ heldP c arg9 g9
        ∗ (∃ fs, heldP c scoM fs) ∗ (∃ W, owes (c : Thread nD τ) 0 W)
        ∗ homeP c XA (Ring.bk 64 ((i 0).val + 3)) ∗ (∃ f, flightP c XA (Ring.sl 3 (i 0).val) (Ring.bk 64 (i 0).val) f))
      ⊢ wp frame (wpE (defs₀ (F := F)) 𝒱₀ (c : Thread nD τ) none) Set.univ
          (bodyG i arg1 harg1 arg2 harg2 arg4 harg4 arg5 harg5 arg6 harg6 arg7 harg7 arg8 harg8 arg9 harg9)
          (fun _ => iprop(insP c arg1 arg2 arg4 arg5 arg6 x1 x2 x4 x5 x6
            ∗ heldP c arg7 (arg7.view.writes (Elt F) g7 [⟨RR, w.1⟩]) ∗ heldP c arg8 (arg8.view.writes (Elt F) g8 [⟨RA, w.2.1⟩]) ∗ heldP c arg9 (arg9.view.writes (Elt F) g9 [⟨RA, w.2.2⟩])
            ∗ (∃ fs, heldP c scoM fs) ∗ (∃ W, owes (c : Thread nD τ) 0 W)
            ∗ homeP c XA (Ring.bk 64 (i 0).val) ∗ (∃ f, flightP c XA (Ring.sl 3 (i 0).val) (Ring.bk 64 ((i 0).val + 3)) f))) } := by
  refine ⟨⟨?_, ?_, ?_⟩, ?run⟩
  case run =>
    have hc1 : ¬ cond1 i = 1#1 := fun h => h0 ((cond1_iff i).mp h)
    have hc2 : k0_cond2 i = 1#1 := (cond2_iff i).mpr h3
    unfold insP
    iintro ⟨⟨H1, H2, H4, H5, H6⟩, H7, H8, H9, ⟨%fs, Hs⟩, ⟨%W, HW⟩, Hh, ⟨%f0, HF0⟩⟩
    dsimp only [bodyG]
    sl_exec
    sl_step
    isplitl [H1 H2 H4 H5 H6]
    · isplitl [H1]; · iexact H1
      isplitl [H2]; · iexact H2
      isplitl [H4]; · iexact H4
      isplitl [H5]; · iexact H5
      iexact H6
    isplitl [H7]; · iexact H7
    isplitl [H8]; · iexact H8
    isplitl [H9]; · iexact H9
    isplitl [Hs]; · iexists _; iexact Hs
    isplitl [HW]; · iexists _; iexact HW
    isplitl [HF0_src]; · iexact HF0_src
    iexists _; iexact HF0

/-- What the body leaves in the block of `r`. -/
def outR : (RR).shape.Idx → Elt F .f32 :=
  k0_pay92 (midRun.sl.r_59 c XA i arg1 arg2 arg4 arg5 arg6 x1 x2 x4 x5 x6) k0_pay87 k0_pay88 k0_pay89 k0_pay90 k0_pay91
/-- What it leaves in the block of weights. -/
def outA : (RA).shape.Idx → Elt F .f32 := k0_pay65 (midRun.sl.r_35 c XA i arg1 arg2 arg4 arg5 x1 x2 x4 x5)
/-- What it leaves in the block of indices. -/
def outI : (RA).shape.Idx → Elt F .i32 := midRun.sl.r_36 c XA i arg1 arg2 arg4 arg5 x1 x2 x4 x5

/-- The three result blocks after the body. -/
def outsP (g7 : Buf (Elt F) (arg7.view.loc (c : Thread nD τ))) (g8 : Buf (Elt F) (arg8.view.loc (c : Thread nD τ))) (g9 : Buf (Elt F) (arg9.view.loc (c : Thread nD τ))) : sProp 𝕄 :=
  iprop(heldP c arg7 (arg7.view.writes (Elt F) g7 [⟨RR, outR c XA i arg1 arg2 arg4 arg5 arg6 x1 x2 x4 x5 x6⟩])
    ∗ heldP c arg8 (arg8.view.writes (Elt F) g8 [⟨RA, outA c XA i arg1 arg2 arg4 arg5 x1 x2 x4 x5⟩])
    ∗ heldP c arg9 (arg9.view.writes (Elt F) g9 [⟨RA, outI c XA i arg1 arg2 arg4 arg5 x1 x2 x4 x5⟩]))

/-- What every point is handed beside its part of the ring. -/
def preP (g7 : Buf (Elt F) (arg7.view.loc (c : Thread nD τ))) (g8 : Buf (Elt F) (arg8.view.loc (c : Thread nD τ))) (g9 : Buf (Elt F) (arg9.view.loc (c : Thread nD τ))) : sProp 𝕄 :=
  iprop(insP c arg1 arg2 arg4 arg5 arg6 x1 x2 x4 x5 x6 ∗ heldP c arg7 g7 ∗ heldP c arg8 g8 ∗ heldP c arg9 g9
    ∗ (∃ fs, heldP c scoM fs) ∗ (∃ W, owes (c : Thread nD τ) 0 W))
/-- What every point hands back beside its part of the ring. -/
def postP (g7 : Buf (Elt F) (arg7.view.loc (c : Thread nD τ))) (g8 : Buf (Elt F) (arg8.view.loc (c : Thread nD τ))) (g9 : Buf (Elt F) (arg9.view.loc (c : Thread nD τ))) : sProp 𝕄 :=
  iprop(insP c arg1 arg2 arg4 arg5 arg6 x1 x2 x4 x5 x6 ∗ outsP c XA i arg1 arg2 arg4 arg5 arg6 arg7 arg8 arg9 x1 x2 x4 x5 x6 g7 g8 g9
    ∗ (∃ fs, heldP c scoM fs) ∗ (∃ W, owes (c : Thread nD τ) 0 W))

variable (g7 : Buf (Elt F) (arg7.view.loc (c : Thread nD τ))) (g8 : Buf (Elt F) (arg8.view.loc (c : Thread nD τ))) (g9 : Buf (Elt F) (arg9.view.loc (c : Thread nD τ)))

/-- A point between the first and the last three: its block is waited for, the block three places on is sent for. -/
theorem run_mid (h0 : (i 0).val ≠ 0) (h3 : (i 0).val + 3 < 64) :
    iprop(preP c arg1 arg2 arg4 arg5 arg6 arg7 arg8 arg9 x1 x2 x4 x5 x6 g7 g8 g9
        ∗ homeP c XA (Ring.bk 64 ((i 0).val + 3)) ∗ (∃ f, flightP c XA (Ring.sl 3 (i 0).val) (Ring.bk 64 (i 0).val) f))
      ⊢ wp frame (wpE (defs₀ (F := F)) 𝒱₀ (c : Thread nD τ) none) Set.univ
          (bodyG i arg1 harg1 arg2 harg2 arg4 harg4 arg5 harg5 arg6 harg6 arg7 harg7 arg8 harg8 arg9 harg9)
          (fun _ => iprop(postP c XA i arg1 arg2 arg4 arg5 arg6 arg7 arg8 arg9 x1 x2 x4 x5 x6 g7 g8 g9
            ∗ homeP c XA (Ring.bk 64 (i 0).val) ∗ (∃ f, flightP c XA (Ring.sl 3 (i 0).val) (Ring.bk 64 ((i 0).val + 3)) f))) := by
  refine .trans ?_ (.trans (midRun c XA i arg1 harg1 arg2 harg2 arg4 harg4 arg5 harg5 arg6 harg6 arg7 harg7 arg8 harg8 arg9 harg9 x1 x2 x4 x5 x6 h0 h3 g7 g8 g9).2 ?_)
  · unfold preP
    iintro ⟨⟨H1, H7, H8, H9, Hs, HW⟩, Hh, HF⟩
    isplitl [H1]; · iexact H1
    isplitl [H7]; · iexact H7
    isplitl [H8]; · iexact H8
    isplitl [H9]; · iexact H9
    isplitl [Hs]; · iexact Hs
    isplitl [HW]; · iexact HW
    isplitl [Hh]; · iexact Hh
    iexact HF
  · refine wp_mono _ _ _ ?_
    intro _
    unfold postP outsP
    iintro ⟨H1, H7, H8, H9, Hs, HW, Hh, HF⟩
    isplitr [Hh HF]
    · isplitl [H1]; · iexact H1
      isplitl [H7 H8 H9]
      · isplitl [H7]; · iexact H7
        isplitl [H8]; · iexact H8
        iexact H9
      isplitl [Hs]; · iexact Hs
      iexact HW
    isplitl [Hh]; · iexact Hh
    iexact HF

set_option maxHeartbeats 4000000 in
/-- One of the last three points: its block is waited for and nothing more is sent for. -/
theorem run_tail (h0 : (i 0).val ≠ 0) (h3 : ¬ (i 0).val + 3 < 64) :
    iprop(preP c arg1 arg2 arg4 arg5 arg6 arg7 arg8 arg9 x1 x2 x4 x5 x6 g7 g8 g9
        ∗ (∃ f, flightP c XA (Ring.sl 3 (i 0).val) (Ring.bk 64 (i 0).val) f))
      ⊢ wp frame (wpE (defs₀ (F := F)) 𝒱₀ (c : Thread nD τ) none) Set.univ
          (bodyG i arg1 harg1 arg2 harg2 arg4 harg4 arg5 harg5 arg6 harg6 arg7 harg7 arg8 harg8 arg9 harg9)
          (fun _ => iprop(postP c XA i arg1 arg2 arg4 arg5 arg6 arg7 arg8 arg9 x1 x2 x4 x5 x6 g7 g8 g9
            ∗ homeP c XA (Ring.bk 64 (i 0).val) ∗ cellP c (Ring.sl 3 (i 0).val) ∗ (∃ f, slotP c (Ring.sl 3 (i 0).val) f))) := by
  have hc1 : ¬ cond1 i = 1#1 := fun h => h0 ((cond1_iff i).mp h)
  have hc2 : ¬ k0_cond2 i = 1#1 := fun h => h3 ((cond2_iff i).mp h)
  unfold preP postP outsP insP
  iintro ⟨⟨⟨H1, H2, H4, H5, H6⟩, H7, H8, H9, ⟨%fs, Hs⟩, ⟨%W, HW⟩⟩, ⟨%f0, HF0⟩⟩
  dsimp only [bodyG]
  sl_exec
  sl_step
  isplitr [HF0_src HF0_dst HF0]
  · isplitl [H1 H2 H4 H5 H6]
    · isplitl [H1]; · iexact H1
      isplitl [H2]; · iexact H2
      isplitl [H4]; · iexact H4
      isplitl [H5]; · iexact H5
      iexact H6
    isplitl [H7 H8 H9]
    · isplitl [H7]; · iexact H7
      isplitl [H8]; · iexact H8
      iexact H9
    isplitl [Hs]; · iexists _; iexact Hs
    iexists _; iexact HW
  isplitl [HF0_src]; · iexact HF0_src
  isplitl [HF0]; · iexact HF0
  iexists _; iexact HF0_dst

/-- A copy into slot 0 of block 0 is, at point 0, a copy into the point's slot of the point's block. -/
theorem flight_at_zero (h0 : (i 0).val = 0) :
    (iprop(∃ f, flightP c XA 0 0 f) : sProp 𝕄) ⊢ iprop(∃ f, flightP c XA (Ring.sl 3 (i 0).val) (Ring.bk 64 (i 0).val) f) := by
  rw [h0]; exact .rfl

set_option maxHeartbeats 4000000 in
/-- The first point: blocks 0, 1 and 2 are sent for, block 0 is waited for, block 3 is sent for. -/
theorem run_first (h0 : (i 0).val = 0) :
    iprop(preP c arg1 arg2 arg4 arg5 arg6 arg7 arg8 arg9 x1 x2 x4 x5 x6 g7 g8 g9
        ∗ homeP c XA 0 ∗ homeP c XA 1 ∗ homeP c XA 2 ∗ homeP c XA (Ring.bk 64 ((i 0).val + 3))
        ∗ (cellP c 0 ∗ ∃ f, slotP c 0 f) ∗ (cellP c 1 ∗ ∃ f, slotP c 1 f) ∗ (cellP c 2 ∗ ∃ f, slotP c 2 f))
      ⊢ wp frame (wpE (defs₀ (F := F)) 𝒱₀ (c : Thread nD τ) none) Set.univ
          (bodyG i arg1 harg1 arg2 harg2 arg4 harg4 arg5 harg5 arg6 harg6 arg7 harg7 arg8 harg8 arg9 harg9)
          (fun _ => iprop(postP c XA i arg1 arg2 arg4 arg5 arg6 arg7 arg8 arg9 x1 x2 x4 x5 x6 g7 g8 g9
            ∗ homeP c XA (Ring.bk 64 (i 0).val) ∗ (∃ f, flightP c XA (Ring.sl 3 (i 0).val) (Ring.bk 64 ((i 0).val + 3)) f)
            ∗ (∃ f, flightP c XA 1 1 f) ∗ (∃ f, flightP c XA 2 2 f))) := by
  have h3 : (i 0).val + 3 < 64 := by omega
  have hc1 : cond1 i = 1#1 := (cond1_iff i).mpr h0
  have hc2 : k0_cond2 i = 1#1 := (cond2_iff i).mpr h3
  unfold preP postP outsP insP
  iintro ⟨⟨⟨H1, H2, H4, H5, H6⟩, H7, H8, H9, ⟨%fs, Hs⟩, ⟨%W, HW⟩⟩, Hh0, Hh1, Hh2, Hh3, ⟨Hc0, ⟨%f0, Hs0⟩⟩, ⟨Hc1, ⟨%f1, Hs1⟩⟩, ⟨Hc2, ⟨%f2, Hs2⟩⟩⟩
  dsimp only [bodyG]
  sl_exec
  ihave HG := (flight_at_zero c XA i h0) $$ [Hc0]
  · iexists f0; iexact Hc0
  icases HG with ⟨%f0', HF0⟩
  sl_exec
  sl_step
  isplitr [HF0_src HF0 Hc1 Hc2]
  · isplitl [H1 H2 H4 H5 H6]
    · isplitl [H1]; · iexact H1
      isplitl [H2]; · iexact H2
      isplitl [H4]; · iexact H4
      isplitl [H5]; · iexact H5
      iexact H6
    isplitl [H7 H8 H9]
    · isplitl [H7]; · iexact H7
      isplitl [H8]; · iexact H8
      iexact H9
    isplitl [Hs]; · iexists _; iexact Hs
    iexists _; iexact HW
  isplitl [HF0_src]; · iexact HF0_src
  isplitl [HF0]; · iexists _; iexact HF0
  isplitl [Hc1]; · iexists f1; iexact Hc1
  iexists f2; iexact Hc2

end Point

end Cert.KernelIdeal.Body

end
-- ==== Proof.KernelIdealRun.lean ====
/-
  `KernelIdeal` launched: the ring of copies carried from point to point, the body's obligation at every point, and the
  run of the whole program: it terminates without fault, every counter ends at zero, the arguments end unchanged, and the three
  result arrays hold what the points leave.
-/
module

public import proofs.«01_k».proof.Proof.KernelIdealBody

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The ring before a point -/

section RingState
variable (c : Dev nD) (XA : Buf (Elt F) (memM.view.loc (c : Thread nD τ)))

/-- Slot `s` idle: its semaphore at zero, its words at anything. -/
abbrev freeP (s : Fin 3) : sProp 𝕄 := iprop(cellP c s ∗ ∃ f, slotP c s f)
/-- Slot `s` receiving block `b`. -/
abbrev inP (s : Fin 3) (b : Fin 64) : sProp 𝕄 := iprop(∃ f, flightP c XA s b f)
/-- The slot of place `k` of the sequence: receiving block `k` if there is one, idle otherwise. -/
def role (k : ℕ) : sProp 𝕄 := if k < 64 then inP c XA (Ring.sl 3 k) (Ring.bk 64 k) else freeP c (Ring.sl 3 k)

/-- The ring before point `p`: at the start everything at rest; later the three blocks from `p` on under way. -/
def ringP (p : ℕ) : sProp 𝕄 :=
  if p = 0 then iprop(bigSep Finset.univ (homeP c XA) ∗ freeP c 0 ∗ freeP c 1 ∗ freeP c 2)
  else iprop(bigSep (Ring.homeSet 3 p) (homeP c XA) ∗ role c XA p ∗ role c XA (p + 1) ∗ role c XA (p + 2))

/-- A place that has a block is receiving it; -/
theorem role_lt {k : ℕ} (h : k < 64) : role c XA k = inP c XA (Ring.sl 3 k) (Ring.bk 64 k) := if_pos h
/-- one that has none is idle. -/
theorem role_ge {k : ℕ} (h : ¬ k < 64) : role c XA k = freeP c (Ring.sl 3 k) := if_neg h

/-- The place three on uses the same slot: a new copy there, if there is a block for it. -/
theorem role_next {k : ℕ} (h : k + 3 < 64) : role c XA (k + 1 + 2) = inP c XA (Ring.sl 3 k) (Ring.bk 64 (k + 3)) := by
  rw [show k + 1 + 2 = k + 3 from rfl, role_lt c XA h, Ring.sl_add]
/-- The place three on uses the same slot: idle, if there is no block for it. -/
theorem role_next_free {k : ℕ} (h : ¬ k + 3 < 64) : role c XA (k + 1 + 2) = freeP c (Ring.sl 3 k) := by
  rw [show k + 1 + 2 = k + 3 from rfl, role_ge c XA h, Ring.sl_add]

/-- The blocks at home before a point that sends for one: that one apart from the rest. -/
theorem homes_here (k : ℕ) (hk : k + 3 < 64) :
    bigSep (Ring.homeSet 3 k) (homeP c XA) = iprop(homeP c XA (Ring.bk 64 (k + 3)) ∗ bigSep ((Ring.homeSet 3 k).erase (Ring.bk 64 (k + 3))) (homeP c XA)) := by
  conv_lhs => rw [Ring.homeSet_out 3 k hk, bigSep_insert (Ring.bkL_not_mem_erase 3 k)]
  rfl
/-- After such a point: the block just used is home again beside the same rest. -/
theorem homes_next (k : ℕ) (hk : k + 3 < 64) :
    bigSep (Ring.homeSet 3 (k + 1)) (homeP c XA) = iprop(homeP c XA (Ring.bk 64 k) ∗ bigSep ((Ring.homeSet 3 k).erase (Ring.bk 64 (k + 3))) (homeP c XA)) := by
  conv_lhs => rw [Ring.homeSet_succ 3 k hk, bigSep_insert (Ring.bk_not_mem_erase 3 k (by omega) (by decide))]
  rfl
/-- After a point that sends for nothing: the block just used is home beside those that were. -/
theorem homes_next_tail (k : ℕ) (hk : ¬ k + 3 < 64) (h : k < 64) :
    bigSep (Ring.homeSet 3 (k + 1)) (homeP c XA) = iprop(homeP c XA (Ring.bk 64 k) ∗ bigSep (Ring.homeSet 3 k) (homeP c XA)) := by
  conv_lhs => rw [Ring.homeSet_succ_tail 3 k (by omega) h, bigSep_insert (Ring.bk_not_mem_homeSet 3 k h (by decide))]
  rfl
/-- Before the first point every block is home: the four it sends for apart from the rest. -/
theorem homes_start :
    bigSep Finset.univ (homeP c XA)
      = iprop(homeP c XA 0 ∗ homeP c XA 1 ∗ homeP c XA 2 ∗ homeP c XA (Ring.bk 64 (0 + 3)) ∗ bigSep ((Ring.homeSet 3 0).erase (Ring.bk 64 (0 + 3))) (homeP c XA)) := by
  have e : (Finset.univ : Finset (Fin 64)) = insert 0 (insert 1 (insert 2 (Ring.homeSet (NB := 64) 3 0))) := by
    ext b; simp only [Finset.mem_univ, Finset.mem_insert, Ring.mem_homeSet, true_iff, Fin.ext_iff]
    have := b.isLt
    show b.val = 0 ∨ b.val = 1 ∨ b.val = 2 ∨ _
    omega
  rw [e, bigSep_insert (by simp [Ring.mem_homeSet, Fin.ext_iff]), bigSep_insert (by simp [Ring.mem_homeSet, Fin.ext_iff]),
    bigSep_insert (by simp [Ring.mem_homeSet, Fin.ext_iff]), homes_here c XA 0 (by decide)]
  rfl

end RingState

/-! ## The element sets of the blocks and of the slots -/

/-- The indices of block `b` of the memories, -/
abbrev blkSet (b : Fin 64) : Finset S1024x2048x64.Idx := (Rect.unit (s := S1024x2048x64) (blkOff b) S16x2048x64.size (blkOff_inb b)).set
/-- and of slot `s` of the ring. -/
abbrev slotSet (s : Fin 3) : Finset S3x16x2048x64.Idx := (Rect.unit (s := S3x16x2048x64) (slotOff s) S1x16x2048x64.size (slotOff_inb s)).set

/-- The block's view is on those indices; -/
theorem blk_set (b : Fin 64) : (blk b : Memref sig .tc .hbm _ _).view.set = blkSet b := View.set_slice_whole _ _
/-- so is the slot's. -/
theorem rslot_set (s : Fin 3) : (rslot s : Memref sig .tc .vmem _ _).view.set = slotSet s := (View.set_reshape _ _).trans (View.set_slice_whole _ _)

/-- The block a row falls into, -/
def blkOf (y : S1024x2048x64.Idx) : Fin 64 := ⟨(y 0).val / 16, by have : (y 0).val < 1024 := (y 0).isLt; omega⟩
/-- and the slot a first coordinate names. -/
def slotOf (y : S3x16x2048x64.Idx) : Fin 3 := ⟨(y 0).val, (y 0).isLt⟩

/-- A block is the indices whose row falls into it. -/
theorem mem_blkSet (b : Fin 64) (y : S1024x2048x64.Idx) : y ∈ blkSet b ↔ blkOf y = b := by
  have inner : ∀ a : Fin 3, a ≠ 0 → blkOff b a ≤ (y a).val ∧ (y a).val < blkOff b a + S16x2048x64.size a := fun a ha => by
    have ly : (y a).val < S1024x2048x64.size a := (y a).isLt
    fin_cases a
    · exact absurd rfl ha
    · exact ⟨Nat.zero_le _, by simpa [blkOff] using ly⟩
    · exact ⟨Nat.zero_le _, by simpa [blkOff] using ly⟩
  have outer : (blkOff b 0 ≤ (y 0).val ∧ (y 0).val < blkOff b 0 + S16x2048x64.size 0) ↔ blkOf y = b := by
    rw [Fin.ext_iff]
    show (16 * b.val ≤ (y 0).val ∧ (y 0).val < 16 * b.val + 16) ↔ (y 0).val / 16 = b.val
    omega
  rw [Rect.mem_set_unit, ← outer]
  exact ⟨fun H => H 0, fun H a => if ha : a = 0 then ha ▸ H else inner a ha⟩

/-- A slot is the indices whose first coordinate names it. -/
theorem mem_slotSet (s : Fin 3) (y : S3x16x2048x64.Idx) : y ∈ slotSet s ↔ slotOf y = s := by
  have inner : ∀ a : Fin 4, a ≠ 0 → slotOff s a ≤ (y a).val ∧ (y a).val < slotOff s a + S1x16x2048x64.size a := fun a ha => by
    have ly : (y a).val < S3x16x2048x64.size a := (y a).isLt
    fin_cases a
    · exact absurd rfl ha
    · exact ⟨Nat.zero_le _, by simpa [slotOff] using ly⟩
    · exact ⟨Nat.zero_le _, by simpa [slotOff] using ly⟩
    · exact ⟨Nat.zero_le _, by simpa [slotOff] using ly⟩
  have outer : (slotOff s 0 ≤ (y 0).val ∧ (y 0).val < slotOff s 0 + S1x16x2048x64.size 0) ↔ slotOf y = s := by
    rw [Fin.ext_iff]
    show (s.val ≤ (y 0).val ∧ (y 0).val < s.val + 1) ↔ (y 0).val = s.val
    omega
  rw [Rect.mem_set_unit, ← outer]
  exact ⟨fun H => H 0, fun H a => if ha : a = 0 then ha ▸ H else inner a ha⟩

/-- Sets that are the fibres of a function share nothing and cover everything. -/
theorem fibres {X K : Type} [Fintype X] [DecidableEq X] [Fintype K] (f : X → K) (S : K → Finset X) (h : ∀ k y, y ∈ S k ↔ f y = k) :
    (∀ k l, k ≠ l → Disjoint (S k) (S l)) ∧ Finset.univ.biUnion S = Finset.univ :=
  ⟨fun k l hkl => Finset.disjoint_left.mpr fun y hk hl => hkl (((h k y).mp hk).symm.trans ((h l y).mp hl)),
    Finset.eq_univ_iff_forall.mpr fun y => Finset.mem_biUnion.mpr ⟨f y, Finset.mem_univ _, (h (f y) y).mpr rfl⟩⟩

/-- The memories' array whole is its sixty-four blocks. -/
theorem mem_eq (c : Dev nD) (XA : Buf (Elt F) ((c : Thread nD τ).loc main_arg1)) :
    ((((c : Thread nD τ).loc main_arg1) ↦{fullShare} XA) : sProp 𝕄) = bigSep Finset.univ (homeP c XA) := by
  rw [Ring.pointsTo_blocks (ℓ := (c : Thread nD τ).loc main_arg1) blkSet (fibres blkOf blkSet mem_blkSet).1 (fibres blkOf blkSet mem_blkSet).2]
  exact bigSep_congr fun b _ => by rw [← blk_set]; rfl
/-- The buffer whole at contents `f` is its slots at `f`, -/
theorem ring_eq (c : Dev nD) (f : Buf (Elt F) ((c : Thread nD τ).loc cc0_scratch1)) :
    ((((c : Thread nD τ).loc cc0_scratch1) ↦{fullShare} f) : sProp 𝕄) = bigSep Finset.univ fun s : Fin 3 => slotP c s f := by
  rw [Ring.pointsTo_blocks (ℓ := (c : Thread nD τ).loc cc0_scratch1) slotSet (fibres slotOf slotSet mem_slotSet).1 (fibres slotOf slotSet mem_slotSet).2]
  exact bigSep_congr fun s _ => by rw [← rslot_set]; rfl
/-- so that it comes apart into slots at anything, -/
theorem buf_split (c : Dev nD) :
    iprop(∃ f : Buf (Elt F) ((c : Thread nD τ).loc cc0_scratch1), ((c : Thread nD τ).loc cc0_scratch1) ↦{fullShare} f)
      ⊢ (iprop((∃ f, slotP c 0 f) ∗ (∃ f, slotP c 1 f) ∗ ∃ f, slotP c 2 f) : sProp 𝕄) := by
  iintro ⟨%f, H⟩
  ihave Hs := (Entails.of_eq ((ring_eq c f).trans (Ring.bigSep_fin3 _))) $$ H
  icases Hs with ⟨Ha, Hb, Hc⟩
  isplitl [Ha]
  · iexists f; iexact Ha
  isplitl [Hb]
  · iexists f; iexact Hb
  iexists f; iexact Hc
/-- A slot at some contents is its indices at some contents, -/
theorem slot_some (c : Dev nD) (s : Fin 3) :
    iprop(∃ f, slotP c s f) ⊢ (iprop(∃ f, ((c : Thread nD τ).loc cc0_scratch1) ↦[slotSet s]{fullShare} f) : sProp 𝕄) := by
  rw [← rslot_set]
  exact .rfl
/-- and slots at anything go back together. -/
theorem buf_join (c : Dev nD) :
    iprop((∃ f, slotP c 0 f) ∗ (∃ f, slotP c 1 f) ∗ ∃ f, slotP c 2 f)
      ⊢ (iprop(∃ f : Buf (Elt F) ((c : Thread nD τ).loc cc0_scratch1), ((c : Thread nD τ).loc cc0_scratch1) ↦{fullShare} f) : sProp 𝕄) := by
  refine .trans ?_ (Ring.pointsTo_blocks_join_exists (ℓ := (c : Thread nD τ).loc cc0_scratch1) slotSet
    (fibres slotOf slotSet mem_slotSet).1 (fibres slotOf slotSet mem_slotSet).2 (fun _ => Classical.arbitrary _))
  rw [Ring.bigSep_fin3]
  exact BIClass.sep_mono (slot_some c 0) (BIClass.sep_mono (slot_some c 1) (slot_some c 2))

/-! ## The kernel's own semaphores and the operand it moves itself -/

/-- The body's own semaphores, one per slot, -/
abbrev osem : Fin 3 → SemLoc sig := fun s => .dma (csm s).sem
/-- which are none of the pipeline's, -/
theorem ownSemFacts : Pipeline.OwnSemFacts spec0 osem := by decide
/-- and which at rest are the three slots' at zero. -/
theorem ownSems_eq (c : Dev nD) : (Pipeline.ownSems0 (Ix := Unit) (Name := ℕ) (U := Pipeline.UD sig nD τ) (Lvl := ℕ) (Val := Elt F) (τ := τ) osem c : sProp 𝕄)
    = iprop(cellP c 0 ∗ cellP c 1 ∗ cellP c 2) := by
  unfold Pipeline.ownSems0; rw [Ring.bigSep_fin3]
/-- The array that stays in place for the body to copy from, -/
abbrev HH : Finset (Ref sig .tc) := {main_arg1}
/-- which is no window's. -/
theorem HH_sub : HH ⊆ Pipeline.restRefs sig spec0 := by decide

/-! ## The proof data -/

/-- The memories at launch. -/
abbrev memA (c : Dev nD) : Buf (Elt F) (memM.view.loc (c : Thread nD τ)) := V m c main_arg1

/-- What is carried to point `p`: the buffer of scores, the generator register, the ring. -/
def Φ (c : Dev nD) (p : ℕ) : sProp 𝕄 :=
  iprop((∃ f, heldP c scoM f) ∗ (∃ r, prngReg c r) ∗ ringP c (memA m c) p)

/-- The staged blocks at point `t`: of inputs, usage averages, query, key and value weights, and of the three results. -/
abbrev ms0 (t : Fin cfg0.N) : Memref sig .tc .vmem S16x1792 .f32 := win0_0.stage (cfg0.slots t 0)
abbrev ms1 (t : Fin cfg0.N) : Memref sig .tc .vmem S16x2048 .f32 := win0_1.stage (cfg0.slots t 1)
abbrev ms2 (t : Fin cfg0.N) : Memref sig .tc .vmem S1792x128 .f32 := win0_2.stage (cfg0.slots t 2)
abbrev ms3 (t : Fin cfg0.N) : Memref sig .tc .vmem S64x128 .f32 := win0_3.stage (cfg0.slots t 3)
abbrev ms4 (t : Fin cfg0.N) : Memref sig .tc .vmem S64x64 .f32 := win0_4.stage (cfg0.slots t 4)
abbrev ms5 (t : Fin cfg0.N) : Memref sig .tc .vmem S16x64 .f32 := win0_5.stage (cfg0.slots t 5)
abbrev ms6 (t : Fin cfg0.N) : Memref sig .tc .vmem S128x8 .f32 := win0_6.stage (cfg0.slots t 6)
abbrev ms7 (t : Fin cfg0.N) : Memref sig .tc .vmem S128x8 .i32 := win0_7.stage (cfg0.slots t 7)

/-- What point `t` leaves in its block of `r`, -/
def rAt (c : Dev nD) (t : Fin cfg0.N) : Vec F S16x64 .f32 :=
  (ms5 t).view.read (Elt F) ((ms5 t).view.writes (Elt F) (ms5 t).view.junk
    [⟨RR, outR c (memA m c) (grid0.coords t) (ms0 t) (ms1 t) (ms2 t) (ms3 t) (ms4 t) (iblk m c 0 t) (iblk m c 1 t) (iblk m c 2 t) (iblk m c 3 t) (iblk m c 4 t)⟩])
/-- in its block of weights, -/
def aAt (c : Dev nD) (t : Fin cfg0.N) : Vec F S128x8 .f32 :=
  (ms6 t).view.read (Elt F) ((ms6 t).view.writes (Elt F) (ms6 t).view.junk
    [⟨RA, outA c (memA m c) (grid0.coords t) (ms0 t) (ms1 t) (ms2 t) (ms3 t) (iblk m c 0 t) (iblk m c 1 t) (iblk m c 2 t) (iblk m c 3 t)⟩])
/-- in its block of indices. -/
def iAt (c : Dev nD) (t : Fin cfg0.N) : Vec F S128x8 .i32 :=
  (ms7 t).view.read (Elt F) ((ms7 t).view.writes (Elt F) (ms7 t).view.junk
    [⟨RA, outI c (memA m c) (grid0.coords t) (ms0 t) (ms1 t) (ms2 t) (ms3 t) (iblk m c 0 t) (iblk m c 1 t) (iblk m c 2 t) (iblk m c 3 t)⟩])

/-- One store covers the block of read vectors, -/
theorem cover_RR {E : EltTy} (w : (RR).shape.Idx → Elt F E) (y : S16x64.Idx) : ∃ pc ∈ ([⟨RR, w⟩] : List (View.Piece (Elt F) S16x64 E)), y ∈ pc.1.set := by
  refine ⟨_, List.mem_singleton.mpr rfl, ?_⟩
  rw [Rect.mem_set_unit]
  have h0 : (y 0).val < 16 := (y 0).isLt
  have h1 : (y 1).val < 64 := (y 1).isLt
  intro a; fin_cases a
  · show 0 ≤ (y 0).val ∧ (y 0).val < 0 + 16; omega
  · show 0 ≤ (y 1).val ∧ (y 1).val < 0 + 64; omega
/-- one store covers the block of weights or of indices. -/
theorem cover_RA {E : EltTy} (w : (RA).shape.Idx → Elt F E) (y : S128x8.Idx) : ∃ pc ∈ ([⟨RA, w⟩] : List (View.Piece (Elt F) S128x8 E)), y ∈ pc.1.set := by
  refine ⟨_, List.mem_singleton.mpr rfl, ?_⟩
  rw [Rect.mem_set_unit]
  have h0 : (y 0).val < 128 := (y 0).isLt
  have h1 : (y 1).val < 8 := (y 1).isLt
  intro a; fin_cases a
  · show 0 ≤ (y 0).val ∧ (y 0).val < 0 + 128; omega
  · show 0 ≤ (y 1).val ∧ (y 1).val < 0 + 8; omega

/-- The launch: the arrays before it, what is carried, and what each point leaves in each window's block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rAt m c t
    | ⟨6, _⟩ => aAt m c t
    | ⟨7, _⟩ => iAt m c t
  Φ t := Φ m c t.val
  q _ := fullShare
  owed _ := 0

/-- The arrays before the launch are the memory's. -/
theorem A_eq (c : Dev nD) (w : Fin cfg0.W) : (dats m 0 c).A w = V m c (Pipeline.arrRef spec0 w) := by dsimp only [dats]
/-- After a point the arguments' blocks are as they were and the results' are what the point leaves. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = rAt m c t := by dsimp only [dats]
theorem after_6 (c : Dev nD) (t : Fin cfg0.N) : (dats m 0 c).after 6 t = aAt m c t := by dsimp only [dats]
theorem after_7 (c : Dev nD) (t : Fin cfg0.N) : (dats m 0 c).after 7 t = iAt m c t := by dsimp only [dats]

/-- Before a point the arguments' blocks are those of the arrays. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body's obligation -/

/-- The coordinate of point `t` is `t`. -/
theorem coords_val (t : Fin cfg0.N) : (grid0.coords t 0).val = t.val := by
  have h : t.val < 64 := lt_of_lt_of_eq t.isLt N_0
  refine (Pipeline.Grid.coords_val (G := grid0) t 0 (S := 1) (B := 64) rfl rfl).trans ?_
  omega

/-- The ring from before a point to after it, through the body: `P` and `Q` are what else goes in and comes out. -/
theorem body_step (c : Dev nD) (t : Fin cfg0.N)
    (g7 : Buf (Elt F) ((ms5 t).view.loc (c : Thread nD τ))) (g8 : Buf (Elt F) ((ms6 t).view.loc (c : Thread nD τ))) (g9 : Buf (Elt F) ((ms7 t).view.loc (c : Thread nD τ)))
    (x1 : Vec F S16x1792 .f32) (x2 : Vec F S16x2048 .f32) (x4 : Vec F S1792x128 .f32) (x5 : Vec F S64x128 .f32) (x6 : Vec F S64x64 .f32) :
    iprop(preP c (ms0 t) (ms1 t) (ms2 t) (ms3 t) (ms4 t) (ms5 t) (ms6 t) (ms7 t) x1 x2 x4 x5 x6 g7 g8 g9 ∗ ringP c (memA m c) t.val)
      ⊢ wp frame (wpE (defs₀ (F := F)) 𝒱₀ (c : Thread nD τ) none) Set.univ (bodyAt0 (F := F) t)
          (fun _ => iprop(postP c (memA m c) (grid0.coords t) (ms0 t) (ms1 t) (ms2 t) (ms3 t) (ms4 t) (ms5 t) (ms6 t) (ms7 t) x1 x2 x4 x5 x6 g7 g8 g9 ∗ ringP c (memA m c) (t.val + 1))) := by
  have hi : (grid0.coords t 0).val = t.val := coords_val t
  have hN : t.val < 64 := lt_of_lt_of_eq t.isLt N_0
  generalize ht : t.val = k at hi hN ⊢
  by_cases h0 : k = 0
  · have H := run_first c (memA m c) (grid0.coords t) (ms0 t) (hstage0_0 _) (ms1 t) (hstage0_1 _) (ms2 t) (hstage0_2 _) (ms3 t) (hstage0_3 _)
      (ms4 t) (hstage0_4 _) (ms5 t) (hstage0_5 _) (ms6 t) (hstage0_6 _) (ms7 t) (hstage0_7 _) x1 x2 x4 x5 x6 g7 g8 g9 (hi.trans h0)
    rw [hi] at H
    subst h0
    refine .trans ?_ (.trans (sep_mono_l (Q := bigSep ((Ring.homeSet 3 0).erase (Ring.bk 64 (0 + 3))) (homeP c (memA m c))) H) ?_)
    · unfold ringP; rw [if_pos rfl, homes_start]
      show _ ⊢ iprop(_ ∗ _)
      iintro ⟨HP, ⟨Hh0, Hh1, Hh2, Hh3, Hr⟩, F0, F1, F2⟩
      isplitr [Hr]
      · isplitl [HP]; · iexact HP
        isplitl [Hh0]; · iexact Hh0
        isplitl [Hh1]; · iexact Hh1
        isplitl [Hh2]; · iexact Hh2
        isplitl [Hh3]; · iexact Hh3
        isplitl [F0]; · iexact F0
        isplitl [F1]; · iexact F1
        iexact F2
      iexact Hr
    · refine .trans (wp_frame_r _ _ _) (wp_mono _ _ _ ?_)
      intro _
      unfold ringP
      rw [if_neg (by decide), homes_next c _ 0 (by decide), role_next c _ (by decide), role_lt c _ (by decide), role_lt c _ (by decide)]
      iintro ⟨⟨HP, Hh, HF0, HF1, HF2⟩, Hr⟩
      isplitl [HP]; · iexact HP
      isplitl [Hh Hr]
      · isplitl [Hh]; · iexact Hh
        iexact Hr
      isplitl [HF1]; · iexact HF1
      isplitl [HF2]; · iexact HF2
      iexact HF0
  by_cases h3 : k + 3 < 64
  · have H := run_mid c (memA m c) (grid0.coords t) (ms0 t) (hstage0_0 _) (ms1 t) (hstage0_1 _) (ms2 t) (hstage0_2 _) (ms3 t) (hstage0_3 _)
      (ms4 t) (hstage0_4 _) (ms5 t) (hstage0_5 _) (ms6 t) (hstage0_6 _) (ms7 t) (hstage0_7 _) x1 x2 x4 x5 x6 g7 g8 g9 (by rw [hi]; exact h0) (by rw [hi]; exact h3)
    rw [hi] at H
    refine .trans ?_ (.trans (sep_mono_l (Q := iprop(bigSep ((Ring.homeSet 3 k).erase (Ring.bk 64 (k + 3))) (homeP c (memA m c)) ∗ role c (memA m c) (k + 1) ∗ role c (memA m c) (k + 2))) H) ?_)
    · unfold ringP; rw [if_neg h0, homes_here c _ k h3, role_lt c _ hN]
      show _ ⊢ iprop(_ ∗ _)
      iintro ⟨HP, ⟨Hh, Hr⟩, F0, F1, F2⟩
      isplitr [Hr F1 F2]
      · isplitl [HP]; · iexact HP
        isplitl [Hh]; · iexact Hh
        iexact F0
      isplitl [Hr]; · iexact Hr
      isplitl [F1]; · iexact F1
      iexact F2
    · refine .trans (wp_frame_r _ _ _) (wp_mono _ _ _ ?_)
      intro _
      unfold ringP
      rw [if_neg (by omega), homes_next c _ k h3, role_next c _ h3]
      iintro ⟨⟨HP, Hh, HF0⟩, Hr, F1, F2⟩
      isplitl [HP]; · iexact HP
      isplitl [Hh Hr]
      · isplitl [Hh]; · iexact Hh
        iexact Hr
      isplitl [F1]; · iexact F1
      isplitl [F2]; · iexact F2
      iexact HF0
  · have H := run_tail c (memA m c) (grid0.coords t) (ms0 t) (hstage0_0 _) (ms1 t) (hstage0_1 _) (ms2 t) (hstage0_2 _) (ms3 t) (hstage0_3 _)
      (ms4 t) (hstage0_4 _) (ms5 t) (hstage0_5 _) (ms6 t) (hstage0_6 _) (ms7 t) (hstage0_7 _) x1 x2 x4 x5 x6 g7 g8 g9 (by rw [hi]; exact h0) (by rw [hi]; exact h3)
    rw [hi] at H
    refine .trans ?_ (.trans (sep_mono_l (Q := iprop(bigSep (Ring.homeSet 3 k) (homeP c (memA m c)) ∗ role c (memA m c) (k + 1) ∗ role c (memA m c) (k + 2))) H) ?_)
    · unfold ringP; rw [if_neg h0, role_lt c _ hN]
      show _ ⊢ iprop(_ ∗ _)
      iintro ⟨HP, Hr, F0, F1, F2⟩
      isplitr [Hr F1 F2]
      · isplitl [HP]; · iexact HP
        iexact F0
      isplitl [Hr]; · iexact Hr
      isplitl [F1]; · iexact F1
      iexact F2
    · refine .trans (wp_frame_r _ _ _) (wp_mono _ _ _ ?_)
      intro _
      unfold ringP
      rw [if_neg (by omega), homes_next_tail c _ k h3 hN, role_next_free c _ h3]
      iintro ⟨⟨HP, Hh, Hc, Hs⟩, Hr, F1, F2⟩
      isplitl [HP]; · iexact HP
      isplitl [Hh Hr]
      · isplitl [Hh]; · iexact Hh
        iexact Hr
      isplitl [F1]; · iexact F1
      isplitl [F2]; · iexact F2
      isplitl [Hc]; · iexact Hc
      iexact Hs

/-- The pipeline's body at a point is the kernel's. -/
theorem defs₀_row (t : Fin cfg0.N) :
    defs₀ (F := F) .tc cfg0.body (cfg0.bodyArgs t (cfg0.slots t)) = bodyAt0 t := by
  unfold defs₀; rw [Defs.onTc_tc]

/-- A staged operand held at given words is its buffer at their representative. -/
theorem owns_rep (c : Dev nD) {s : Shape} {e : EltTy} (M : Memref sig .tc .vmem s e) (x : s.Idx → Elt F e) :
    (owns (c : Thread nD τ) M fullShare x : sProp 𝕄) ⊢ heldP c M (M.view.rep x) := by
  unfold owns
  iintro ⟨%f, %hf, H⟩
  ihave H' := (pointsTo_rep_entails (c : Thread nD τ) M f fullShare) $$ H
  rw [hf]
  iexact H'
/-- And back: a buffer at the representative of given words is the operand held at them. -/
theorem rep_owns (c : Dev nD) {s : Shape} {e : EltTy} (M : Memref sig .tc .vmem s e) (x : s.Idx → Elt F e) :
    heldP c M (M.view.rep x) ⊢ (owns (c : Thread nD τ) M fullShare x : sProp 𝕄) := by
  unfold owns
  iintro H
  iexists _; isplitr; swap; · iexact H
  ipureintro; exact View.read_rep _ _

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d))
    ∗ (∃ d, owns (c : Thread nD τ) (ms2 t) fullShare ((dats m 0 c).before 2 t d)) ∗ (∃ d, owns (c : Thread nD τ) (ms3 t) fullShare ((dats m 0 c).before 3 t d))
    ∗ (∃ d, owns (c : Thread nD τ) (ms4 t) fullShare ((dats m 0 c).before 4 t d)) ∗ (∃ d, owns (c : Thread nD τ) (ms5 t) fullShare ((dats m 0 c).before 5 t d))
    ∗ (∃ d, owns (c : Thread nD τ) (ms6 t) fullShare ((dats m 0 c).before 6 t d)) ∗ (∃ d, owns (c : Thread nD τ) (ms7 t) fullShare ((dats m 0 c).before 7 t d)))
/-- and what it gives back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t)
    ∗ owns (c : Thread nD τ) (ms2 t) fullShare ((dats m 0 c).after 2 t) ∗ owns (c : Thread nD τ) (ms3 t) fullShare ((dats m 0 c).after 3 t)
    ∗ owns (c : Thread nD τ) (ms4 t) fullShare ((dats m 0 c).after 4 t) ∗ owns (c : Thread nD τ) (ms5 t) fullShare ((dats m 0 c).after 5 t)
    ∗ owns (c : Thread nD τ) (ms6 t) fullShare ((dats m 0 c).after 6 t) ∗ owns (c : Thread nD τ) (ms7 t) fullShare ((dats m 0 c).after 7 t))

/-- The body takes the one to the other. -/
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost
  simp only [before_0, before_1, before_2, before_3, before_4, after_0, after_1, after_2, after_3, after_4, after_5, after_6, after_7]
  rw [show (dats m 0 c).Φ t.castSucc = Φ m c t.val from rfl, show (dats m 0 c).Φ t.succ = Φ m c (t.val + 1) from rfl]
  unfold Dat.owesAt Pipeline.owesWithin Φ
  rw [show (dats m 0 c).owed t.castSucc = 0 from rfl, show (dats m 0 c).owed t.succ = 0 from rfl]
  iintro ⟨⟨Hs, Hg, HR⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  unfold owns
  icases H5 with ⟨%g5, -, H5⟩
  icases H6 with ⟨%g6, -, H6⟩
  icases H7 with ⟨%g7, -, H7⟩
  iapply (wp_wand_r Idealize.ShloMosaic.frame (wpE (defs₀ (F := F)) 𝒱₀ (c : Thread nD τ) none) Set.univ)
  isplitr [Hg]
  · iapply (body_step m c t g5 g6 g7 (iblk m c 0 t) (iblk m c 1 t) (iblk m c 2 t) (iblk m c 3 t) (iblk m c 4 t))
    isplitr [HR]
    · unfold preP insP
      isplitl [H0 H1 H2 H3 H4]
      · isplitl [H0]; · iapply (owns_rep c (ms0 t)); unfold owns; iexact H0
        isplitl [H1]; · iapply (owns_rep c (ms1 t)); unfold owns; iexact H1
        isplitl [H2]; · iapply (owns_rep c (ms2 t)); unfold owns; iexact H2
        isplitl [H3]; · iapply (owns_rep c (ms3 t)); unfold owns; iexact H3
        iapply (owns_rep c (ms4 t)); unfold owns; iexact H4
      isplitl [H5]; · iexact H5
      isplitl [H6]; · iexact H6
      isplitl [H7]; · iexact H7
      isplitl [Hs]; · iexact Hs
      iexists W; iexact HW
    iexact HR
  · iintro %_ ⟨HP, HR⟩
    unfold postP insP outsP
    icases HP with ⟨⟨H0, H1, H2, H3, H4⟩, ⟨H5, H6, H7⟩, Hs, ⟨%W', HW⟩⟩
    isplitl [Hs Hg HR]
    · isplitl [Hs]; · iexact Hs
      isplitl [Hg]; · iexact Hg
      iexact HR
    isplitl [HW]
    · iexists W'; isplitr; · ipureintro; exact fun _ _ => Or.inl trivial
      iexact HW
    isplitl [H0]; · ihave H := (rep_owns c (ms0 t) _) $$ H0; unfold owns; iexact H
    isplitl [H1]; · ihave H := (rep_owns c (ms1 t) _) $$ H1; unfold owns; iexact H
    isplitl [H2]; · ihave H := (rep_owns c (ms2 t) _) $$ H2; unfold owns; iexact H
    isplitl [H3]; · ihave H := (rep_owns c (ms3 t) _) $$ H3; unfold owns; iexact H
    isplitl [H4]; · ihave H := (rep_owns c (ms4 t) _) $$ H4; unfold owns; iexact H
    isplitl [H5]
    · iexists _; isplitr; swap; · iexact H5
      ipureintro; exact View.read_writes_of_cover _ _ _ _ _ (cover_RR _)
    isplitl [H6]
    · iexists _; isplitr; swap; · iexact H6
      ipureintro; exact View.read_writes_of_cover _ _ _ _ _ (cover_RA _)
    iexists _; isplitr; swap; · iexact H7
    ipureintro; exact View.read_writes_of_cover _ _ _ _ _ (cover_RA _)

/-- This is what the launch asks of the body at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option maxHeartbeats 800000 in
/-- The program around its one region. -/
theorem hmain_dma : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall]) (by simp only [List.Forall]) main_chain

/-- The two reshapes after the region touch no operand the kernel moves itself. -/
theorem tail_sub : ∀ ops ∈ ([hostOps1] : List (List (HloOp τ sig (Elt F)))), ∀ op ∈ ops,
    op.bufs ⊆ Pipeline.tailRefsBut sig Pipeline.Prefetch.none spec0 HH := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  intro b hb
  rw [Finset.mem_singleton] at hb; subst hb
  simp only [hostOps1, List.mem_cons, List.mem_nil_iff, or_false] at hop
  rcases hop with rfl | rfl
  all_goals
    simp only [StableHlo.reshape_bufs, Finset.mem_insert, Finset.mem_singleton, not_or]
    exact ⟨StableHlo.devRef_ne_of_ne (by decide), StableHlo.devRef_ne_of_ne (by decide)⟩

/-- The buffer of scores is held whole. -/
theorem held_sco (c : Dev nD) (f : Buf (Elt F) ((c : Thread nD τ).loc cc0_scratch0)) :
    heldP c scoM f = (((c : Thread nD τ).loc cc0_scratch0) ↦{fullShare} f : sProp 𝕄) :=
  congrArg (fun S => (((c : Thread nD τ).loc cc0_scratch0) ↦[S]{fullShare} f : sProp 𝕄)) (View.set_whole cc0_scratch0)

/-- What the launch hands the kernel is the ring at rest; -/
theorem phi_in (c : Dev nD) : Pipeline.ΦD osem spec0 HH (V m) c ⊢ (dats m 0 c).Φ 0 := by
  rw [Pipeline.ΦD_eq, scopedRest0_eq, ownSems_eq, show (dats m 0 c).Φ 0 = Φ m c 0 from rfl]
  unfold Φ ringP
  rw [if_pos rfl, bigSep_singleton]
  iintro ⟨⟨⟨%fs, Hs⟩, Hb⟩, Hg, ⟨Hc0, Hc1, Hc2⟩, Hm⟩
  isplitl [Hs]
  · iexists fs; iapply (Entails.of_eq (held_sco c fs).symm); iexact Hs
  isplitl [Hg]; · iexact Hg
  isplitl [Hm]
  · iapply (Entails.of_eq (mem_eq c _)); iexact Hm
  ihave Hs3 := (buf_split c) $$ Hb
  icases Hs3 with ⟨H0, H1, H2⟩
  isplitl [Hc0 H0]
  · isplitl [Hc0]; · iexact Hc0
    iexact H0
  isplitl [Hc1 H1]
  · isplitl [Hc1]; · iexact Hc1
    iexact H1
  isplitl [Hc2]; · iexact Hc2
  iexact H2
/-- and the ring at rest after the last point is what the launch takes back. -/
theorem phi_out (c : Dev nD) : (dats m 0 c).Φ (Fin.last cfg0.N) ⊢ Pipeline.ΦD osem spec0 HH (V m) c := by
  rw [Pipeline.ΦD_eq, scopedRest0_eq, ownSems_eq, show (dats m 0 c).Φ (Fin.last cfg0.N) = Φ m c 64 from congrArg (Φ m c) N_0]
  unfold Φ ringP
  rw [if_neg (by decide), bigSep_singleton, Ring.homeSet_last 3 64 le_rfl, role_ge c _ (by decide), role_ge c _ (by decide), role_ge c _ (by decide)]
  iintro ⟨⟨%fs, Hs⟩, Hg, Hm, HF⟩
  ihave HF' := (Ring.free3_of_roles (fun s => freeP c s) 64) $$ HF
  icases HF' with ⟨⟨Hc0, H0⟩, ⟨Hc1, H1⟩, ⟨Hc2, H2⟩⟩
  isplitl [Hs H0 H1 H2]
  · isplitl [Hs]
    · iexists fs; iapply (Entails.of_eq (held_sco c fs)); iexact Hs
    iapply (buf_join c)
    isplitl [H0]; · iexact H0
    isplitl [H1]; · iexact H1
    iexact H2
  isplitl [Hg]; · iexact Hg
  isplitl [Hc0 Hc1 Hc2]
  · isplitl [Hc0]; · iexact Hc0
    isplitl [Hc1]; · iexact Hc1
    iexact Hc2
  iapply (Entails.of_eq (mem_eq c _).symm); iexact Hm

set_option backward.isDefEq.respectTransparency.types false in
/-- The run: it ends, the arrays hold what the proof data say, every counter reads zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem defs₀ 𝒱₀ ownSemFacts HH HH_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmain_dma m) (hA := A_eq m) (hin := phi_in m) (hout := phi_out m)

/-- No operation after the region writes the memories: they end as launched. -/
theorem tail_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The arguments after the run. -/
theorem args_of_post {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans ((A_eq m c 0).trans (V_main_arg0 m c))),
    ((h c).2 main_arg1 (Pipeline.mem_restRefs_of main_arg1 (by decide) (by decide))).trans (tail_main_arg1 m c),
    ((h c).1 1).trans (((dats m 0 c).arrAt_in 1 rfl _).trans ((A_eq m c 1).trans (V_main_arg2 m c))),
    ((h c).1 2).trans (((dats m 0 c).arrAt_in 2 rfl _).trans ((A_eq m c 2).trans (V_main_arg3 m c))),
    ((h c).1 3).trans (((dats m 0 c).arrAt_in 3 rfl _).trans ((A_eq m c 3).trans (V_main_arg4 m c))),
    ((h c).1 4).trans (((dats m 0 c).arrAt_in 4 rfl _).trans ((A_eq m c 4).trans (V_main_arg5 m c)))⟩

/-- The program runs to its end, its six arguments end as they began, every counter ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_of_post m h.1 c, h.2⟩) (run_main m ρ)

end Cert.KernelIdeal.Body

end
-- ==== Proof.KernelFrame.lean ====
/-
  The printed program and its reading at the ideal numbers are the same text: the frame of the one, proved for every reading of the
  floats, is the frame of the other.
-/
module

public import proofs.«01_k».proof.Defs
public import proofs.«01_k».proof.Proof.KernelIdealRun
public import proofs.«01_k».proof.Proof.Gen.Kernel

@[expose] public section

noncomputable section

namespace Cert.Proof

open Idealize.ShloMosaic

/-- The kernel functions of the two programs agree, label by label. -/
theorem defs₀_same {F : FTy → Type} [FloatOps F] : (Cert.Kernel.defs₀ (F := F)) = Cert.KernelIdeal.defs₀ (F := F) :=
  congrArg Defs.onTc (by
    funext l x
    match l, x with
    | ⟨0, _⟩, (t, s) => rfl
    | ⟨_ + 1, h⟩, _ => exact absurd h (Nat.not_lt.2 (Nat.le_add_left _ _)))
/-- So do their pipelines. -/
theorem defs_same {F : FTy → Type} [FloatOps F] : (Cert.Kernel.defs (F := F)) = Cert.KernelIdeal.defs (F := F) :=
  congrArg (Pipeline.defs Cert.KernelIdeal.pcfgs) defs₀_same

/-- The frame of the program on bits. -/
theorem kernel_frame : Cert.quiescent_Kernel := fun m g _ => by
  rw [defs_same]
  exact Cert.KernelIdeal.Body.quiescent (F := Bits) m g
/-- The frame of the program on ideal numbers. -/
theorem kernelIdeal_frame : Cert.quiescent_KernelIdeal := fun m g _ => Cert.KernelIdeal.Body.quiescent m g

end Cert.Proof

end
-- ==== Proof.TopK.lean ====
/-
  The eight greatest entries of a row, once as a stable descending sort gives them and once as rounds of "take the
  maximum, take the first position that attains it, overwrite that position with −∞" find them: the same positions.
  Pure mathematics over a row of extended reals.
-/
module

public import Idealize.ShloMosaic.Lib.SortFacts
public import Mathlib.Data.EReal.Basic

@[expose] public section

noncomputable section

namespace Cert.Router

open Idealize.ShloMosaic

variable {N : ℕ}

/-- Position `k` of the row in descending order, the earlier of two equal entries first. -/
def pick (f : Fin N → EReal) (k : Fin N) : Fin N := sortedFrom (fun p q => decide (f q < f p)) k

/-- Entry `p` comes ahead of entry `q`: it is greater, or equal and earlier. -/
def Ahead (f : Fin N → EReal) (p q : Fin N) : Prop := f q < f p ∨ (f p = f q ∧ p < q)

/-- One insertion keeps a list in order, when what is inserted stood before all of the list in the row. -/
theorem ahead_insert (f : Fin N → EReal) (a : Fin N) (l : List (Fin N)) (ha : ∀ b ∈ l, a < b)
    (hl : l.Pairwise (Ahead f)) : (insertBefore (fun p q => decide (f q < f p)) a l).Pairwise (Ahead f) := by
  induction l with
  | nil => simp [insertBefore]
  | cons b l ih =>
    have hl' := List.pairwise_cons.mp hl
    by_cases hba : f a < f b
    · have e : insertBefore (fun p q => decide (f q < f p)) a (b :: l)
          = b :: insertBefore (fun p q => decide (f q < f p)) a l := by simp [insertBefore, hba]
      rw [e]
      refine List.pairwise_cons.mpr ⟨fun x hx => ?_, ih (fun x hx => ha x (List.mem_cons_of_mem _ hx)) hl'.2⟩
      rcases List.mem_cons.mp ((perm_insertBefore _ a l).mem_iff.mp hx) with h | h
      · subst h; exact Or.inl hba
      · exact hl'.1 x h
    · have e : insertBefore (fun p q => decide (f q < f p)) a (b :: l) = a :: b :: l := by
        simp [insertBefore, hba]
      rw [e]
      refine List.pairwise_cons.mpr ⟨fun x hx => ?_, hl⟩
      have hx1 : f x ≤ f a := by
        rcases List.mem_cons.mp hx with h | h
        · subst h; exact not_lt.mp hba
        · rcases hl'.1 x h with h1 | h1
          · exact h1.le.trans (not_lt.mp hba)
          · rw [← h1.1]; exact not_lt.mp hba
      rcases hx1.lt_or_eq with h | h
      · exact Or.inl h
      · exact Or.inr ⟨h.symm, ha x hx⟩

/-- The sorted list of positions is in order. -/
theorem ahead_sorted (f : Fin N → EReal) (l : List (Fin N)) (hl : l.Pairwise (· < ·)) :
    (stableSort (fun p q => decide (f q < f p)) l).Pairwise (Ahead f) := by
  induction l with
  | nil => simp [stableSort]
  | cons a l ih =>
    have hl' := List.pairwise_cons.mp hl
    exact ahead_insert f a _ (fun b hb => hl'.1 b ((perm_stableSort _ l).mem_iff.mp hb)) (ih hl'.2)

/-- Of two sorted positions the earlier one is ahead. -/
theorem pick_ahead (f : Fin N → EReal) {k l : Fin N} (h : k < l) : Ahead f (pick f k) (pick f l) :=
  List.pairwise_iff_get.mp (ahead_sorted f (List.finRange N) (List.pairwise_lt_finRange N))
    (k.cast (length_sortPositions N _).symm) (l.cast (length_sortPositions N _).symm) h

/-- Sorted positions are different. -/
theorem pick_injective (f : Fin N → EReal) : Function.Injective (pick f) := sortedFrom_injective _

/-- The row after `k` rounds: the first `k` sorted positions hold −∞. -/
def masked (f : Fin N → EReal) (k : ℕ) (j : Fin N) : EReal :=
  open Classical in if ∃ l : Fin N, l.val < k ∧ pick f l = j then ⊥ else f j

/-- After no round the row is as it was. -/
theorem masked_zero (f : Fin N → EReal) : masked f 0 = f := by
  funext j; unfold masked; rw [if_neg]; rintro ⟨l, h, -⟩; exact absurd h (Nat.not_lt_zero _)

/-- A round: the next sorted position is overwritten. -/
theorem masked_succ (f : Fin N → EReal) (k : Fin N) (j : Fin N) :
    masked f (k.val + 1) j = if j = pick f k then ⊥ else masked f k.val j := by
  unfold masked
  by_cases h : j = pick f k
  · rw [if_pos h, if_pos ⟨k, Nat.lt_succ_self _, h.symm⟩]
  · rw [if_neg h]
    refine if_congr ⟨?_, ?_⟩ rfl rfl
    · rintro ⟨l, hl, e⟩
      rcases Nat.lt_succ_iff_lt_or_eq.mp hl with h' | h'
      · exact ⟨l, h', e⟩
      · exact absurd (by rw [← e, Fin.ext h']) h
    · rintro ⟨l, hl, e⟩; exact ⟨l, Nat.lt_succ_of_lt hl, e⟩

/-- The next sorted position still holds its entry. -/
theorem masked_pick (f : Fin N → EReal) (k : Fin N) : masked f k.val (pick f k) = f (pick f k) := by
  unfold masked; rw [if_neg]
  rintro ⟨l, hl, e⟩
  exact absurd (congrArg Fin.val (pick_injective f e)) (Nat.ne_of_lt hl)

/-- Every entry left is at most the next sorted one, and only from later positions equal to it. -/
theorem masked_le (f : Fin N → EReal) (hf : ∀ j, f j ≠ ⊥) (k : Fin N) (j : Fin N) :
    masked f k.val j ≤ f (pick f k) ∧ (masked f k.val j = f (pick f k) → pick f k ≤ j) := by
  unfold masked
  split
  · exact ⟨bot_le, fun h => absurd h.symm (hf _)⟩
  · next hn =>
    obtain ⟨l, rfl⟩ := sortedFrom_surjective (fun p q => decide (f q < f p)) j
    change f (pick f l) ≤ _ ∧ (f (pick f l) = _ → _ ≤ pick f l)
    have hl : ¬ l.val < k.val := fun h => hn ⟨l, h, rfl⟩
    rcases (not_lt.mp hl).lt_or_eq with h | h
    · rcases pick_ahead f (show k < l from h) with h1 | h1
      · exact ⟨h1.le, fun e => absurd e h1.ne⟩
      · exact ⟨h1.1.ge, fun _ => h1.2.le⟩
    · have : k = l := Fin.ext h
      subst this; exact ⟨le_rfl, fun _ => le_rfl⟩

/-- The greatest entry left after `k` rounds is the `k`-th of the sorted row. -/
theorem fold_max_masked (f : Fin N → EReal) (hf : ∀ j, f j ≠ ⊥) (k : Fin N) :
    Finset.univ.fold max ⊥ (masked f k.val) = f (pick f k) := by
  refine le_antisymm ?_ ?_
  · exact (Finset.fold_max_le _).mpr ⟨bot_le, fun j _ => (masked_le f hf k j).1⟩
  · exact (Finset.le_fold_max _).mpr (Or.inr ⟨pick f k, Finset.mem_univ _, (masked_pick f k).ge⟩)

/-- The greatest entry of all is the first of the sorted row. -/
theorem le_pick_zero (f : Fin N → EReal) (hf : ∀ j, f j ≠ ⊥) (k : Fin N) (hk : k.val = 0) (j : Fin N) :
    f j ≤ f (pick f k) := by
  have := (masked_le f hf k j).1
  rwa [hk, masked_zero] at this

attribute [irreducible] pick masked

end Cert.Router
-- ==== Proof.Spec.lean ====
/-
  What the router computes for one row of the batch, over the extended reals: the query and the keys, the eight heads'
  scores of the 2048 memory slots, the eight best slots of a head, their softmax weights, and the weighted values.
-/
module

public import proofs.«01_k».proof.Proof.TopK
public import Idealize.ShloMosaic.Lib.Pointwise

@[expose] public section

noncomputable section

namespace Cert.Router

open Idealize.ShloMosaic

/-- The query's entry at column `c`. -/
def query (u : Fin 1792 → EReal) (Wq : Fin 1792 → Fin 128 → EReal) (c : Fin 128) : EReal := ∑ i, u i * Wq i c

/-- The key of slot `j` at column `c`. -/
def key (M : Fin 2048 → Fin 64 → EReal) (Wk : Fin 64 → Fin 128 → EReal) (j : Fin 2048) (c : Fin 128) : EReal :=
  ∑ d, M j d * Wk d c

/-- Column `e` of head `h` among the 128 query columns. -/
def headCol (h : Fin 8) (e : Fin 16) : Fin 128 := ⟨h.val * 16 + e.val, by omega⟩

/-- The load penalty's factor, as both programs spell it. -/
def penalty : EReal := Ideal.ofBits .f32 0x3C23D70A#32

/-- The scores of the slots for head `h`. -/
def score (q : Fin 128 → EReal) (K : Fin 2048 → Fin 128 → EReal) (E : Fin 2048 → EReal) (h : Fin 8) (j : Fin 2048) : EReal :=
  Ideal.div (∑ e : Fin 16, K j (headCol h e) * q (headCol h e)) (Ideal.ofBits .f32 0x40800000#32) - penalty * E j

/-- The `k`-th best slot. -/
def slot (s : Fin 2048 → EReal) (k : Fin 8) : Fin 2048 := pick s (k.castLE (by decide))

/-- The `k`-th best score. -/
def top (s : Fin 2048 → EReal) (k : Fin 8) : EReal := s (slot s k)

/-- The unnormalised weight of the `k`-th best slot. -/
def weight (s : Fin 2048 → EReal) (k : Fin 8) : EReal := Ideal.exp (top s k - top s 0)

/-- The softmax weight of the `k`-th best slot. -/
def alpha (s : Fin 2048 → EReal) (k : Fin 8) : EReal := Ideal.div (weight s k) (∑ l, weight s l)

/-- The value of slot `j` at column `c`. -/
def value (M : Fin 2048 → Fin 64 → EReal) (Wv : Fin 64 → Fin 64 → EReal) (j : Fin 2048) (c : Fin 64) : EReal :=
  ∑ d, M j d * Wv d c

/-- The weighted values at column `c`, for the scores of that column's head. -/
def output (s : Fin 2048 → EReal) (M : Fin 2048 → Fin 64 → EReal) (Wv : Fin 64 → Fin 64 → EReal) (c : Fin 64) : EReal :=
  ∑ k, alpha s k * value M Wv (slot s k) c

/-- The head of a value column. -/
def headOf (c : Fin 64) : Fin 8 := ⟨c.val / 8, by omega⟩

end Cert.Router
-- ==== Proof.KernelRounds.lean ====
/-
  The kernel's eight rounds of selection on its 128 rows of scores. A round takes each row's maximum, the first lane
  that attains it, and puts −∞ on that lane.
-/
module

public import proofs.«01_k».proof.Proof.Spec
public import proofs.«01_k».proof.Proof.Gen.KernelIdeal.Skeleton
public import Idealize.ShloMosaic.Lib.SortNet.Extract

@[expose] public section

set_option maxRecDepth 16384

noncomputable section

namespace Cert.Router.Kernel

open Cert.KernelIdeal Cert.KernelIdeal.Gen Idealize.ShloMosaic Idealize.ShloMosaic.TcCoe

/-- The lane numbers. -/
def lanes : IVec S128x2048 32 := iota .tc S128x2048 32 [1] iota_S128x2048_d1_w32

/-- The row maxima. -/
def rowMax (s : FVec Ideal S128x2048 .f32) : FVec Ideal S128x1 .f32 := k0_pay34 s
/-- The first lane of each row that attains the maximum. -/
def rowArg (s : FVec Ideal S128x2048 .f32) : IVec S128x1 32 := k0_pay35 s lanes (rowMax s)
/-- The scores with that lane put to −∞. -/
def rowNext (s : FVec Ideal S128x2048 .f32) : FVec Ideal S128x2048 .f32 := k0_pay36 s lanes (rowMax s)

/-- The scores after `k` rounds. -/
def after (s : FVec Ideal S128x2048 .f32) : ℕ → FVec Ideal S128x2048 .f32
  | 0 => s
  | k + 1 => rowNext (after s k)

/-- The bit pattern of −∞ denotes the least element. -/
theorem negInf : Ideal.ofBits .f32 0xFF800000#32 = ⊥ := by
  simp [Ideal.ofBits, Ideal.ieee]

/-- A slot number as a word, read signed. -/
theorem ofNat_toInt (p : Fin 2048) : (BitVec.ofNat 32 p.val).toInt = (p.val : ℤ) := by
  have hp := p.isLt
  have e : (BitVec.ofNat 32 p.val).toNat = p.val := by
    rw [BitVec.toNat_ofNat]; exact Nat.mod_eq_of_lt (by omega)
  rw [BitVec.toInt_eq_toNat_cond, e, if_pos (by omega)]

/-- Slot numbers are told apart by their words. -/
theorem ofNat_inj (p q : Fin 2048) : BitVec.ofNat 32 p.val = BitVec.ofNat 32 q.val ↔ p = q := by
  constructor
  · intro h
    have := congrArg BitVec.toInt h
    rw [ofNat_toInt, ofNat_toInt] at this
    exact Fin.ext (by exact_mod_cast this)
  · rintro rfl; rfl

/-- The signed minimum of the numbers of the lanes that satisfy `P` is the first such lane. -/
theorem fold_first (P : Fin 2048 → Prop) [DecidablePred P] (p : Fin 2048) (hp : P p) (h : ∀ j, P j → p ≤ j) :
    Finset.fold IntOp.minsi (2147483647#32) (fun x : Fin 2048 => if P x then BitVec.ofNat 32 x.val else 2048#32) Finset.univ
      = BitVec.ofNat 32 p.val := by
  apply BitVec.eq_of_toInt_eq
  rw [← Finset.fold_hom (op' := min) (m := BitVec.toInt) (fun x y => SortNet.toInt_minsi x y), ofNat_toInt]
  have e : ∀ x : Fin 2048, BitVec.toInt (if P x then BitVec.ofNat 32 x.val else 2048#32) = if P x then (x.val : ℤ) else 2048 := by
    intro x
    split
    · exact ofNat_toInt x
    · rfl
  simp only [e]
  have := p.isLt
  refine le_antisymm ?_ ?_
  · exact (Finset.fold_min_le _).mpr (Or.inr ⟨p, Finset.mem_univ _, by rw [if_pos hp]⟩)
  · refine (Finset.le_fold_min _).mpr ⟨?_, fun x _ => ?_⟩
    · rw [show (2147483647#32 : BitVec 32).toInt = 2147483647 from rfl]; omega
    · split
      · have := h x (by assumption); rw [Fin.le_def] at this; omega
      · omega

section Row
variable (s : FVec Ideal S128x2048 .f32) (ρ : Fin 128) (f : Fin 2048 → EReal) (hf : ∀ j, f j ≠ ⊥)
include hf

/-- A row's maximum in round `k` is the `k`-th best score. -/
theorem rowMax_at (k : Fin 8) (h : ∀ j, s (ix2 ρ j) = masked f k.val j) : rowMax s (ix2 ρ 0) = top f k := by
  pointwise [rowMax, k0_pay34]
  rw [negInf, show (fun x => s (ix2 ρ x)) = masked f k.val from funext h]
  exact fold_max_masked f hf (k.castLE (by decide))

/-- The lane it is found at is the `k`-th best slot. -/
theorem rowArg_at (k : Fin 8) (h : ∀ j, s (ix2 ρ j) = masked f k.val j) :
    rowArg s (ix2 ρ 0) = BitVec.ofNat 32 (slot f k).val := by
  have hm := rowMax_at s ρ f hf k h
  pointwise [rowArg, k0_pay35, lanes]
  rw [hm]
  simp only [h]
  refine fold_first (fun j => masked f k.val j = top f k) (slot f k) ?_ ?_
  · exact masked_pick f (k.castLE (by decide))
  · intro j hj
    exact (masked_le f hf (k.castLE (by decide)) j).2 hj

/-- What a round leaves. -/
theorem rowNext_at (k : Fin 8) (h : ∀ j, s (ix2 ρ j) = masked f k.val j) (j : Fin 2048) :
    rowNext s (ix2 ρ j) = masked f (k.val + 1) j := by
  have ha := rowArg_at s ρ f hf k h
  rw [show masked f (k.val + 1) j = if j = slot f k then ⊥ else masked f k.val j from masked_succ f (k.castLE (by decide)) j]
  unfold rowArg lanes at ha
  pointwise [rowNext, k0_pay36, lanes]
  rw [ha, h, negInf]
  by_cases e : j = slot f k
  · rw [if_pos e, e]; simp [Scalar.select, IntOp.cmpi]
  · rw [if_neg e]
    have : (BitVec.ofNat 32 j.val == BitVec.ofNat 32 (slot f k).val) = false :=
      beq_eq_false_iff_ne.mpr fun h => e ((ofNat_inj _ _).mp h)
    simp [Scalar.select, IntOp.cmpi, this]

end Row

section Rows
variable (s : FVec Ideal S128x2048 .f32) (ρ : Fin 128) (f : Fin 2048 → EReal) (hf : ∀ j, f j ≠ ⊥) (hs : ∀ j, s (ix2 ρ j) = f j)
include hf hs

/-- The scores before round `k` on a row whose scores are `f`. -/
theorem after_at (k : ℕ) (hk : k < 8) (j : Fin 2048) : after s k (ix2 ρ j) = masked f k j := by
  induction k generalizing j with
  | zero => rw [masked_zero]; exact hs j
  | succ k ih => exact rowNext_at (after s k) ρ f hf ⟨k, by omega⟩ (ih (by omega)) j

/-- Round `k`'s maximum. -/
theorem max_at (k : Fin 8) : rowMax (after s k.val) (ix2 ρ 0) = top f k :=
  rowMax_at _ ρ f hf k (after_at s ρ f hf hs k.val k.isLt)

/-- Round `k`'s lane. -/
theorem arg_at (k : Fin 8) : rowArg (after s k.val) (ix2 ρ 0) = BitVec.ofNat 32 (slot f k).val :=
  rowArg_at _ ρ f hf k (after_at s ρ f hf hs k.val k.isLt)

end Rows

variable (s : FVec Ideal S128x2048 .f32)

/-- The eight maxima side by side. -/
def maxs : FVec Ideal S128x8 .f32 :=
  k0_pay59 (rowMax (after s 0)) (rowMax (after s 1)) (rowMax (after s 2)) (rowMax (after s 3)) (rowMax (after s 4))
    (rowMax (after s 5)) (rowMax (after s 6)) (rowMax (after s 7))
/-- The eight lanes side by side. -/
def args : IVec S128x8 32 :=
  k0_pay60 (rowArg (after s 0)) (rowArg (after s 1)) (rowArg (after s 2)) (rowArg (after s 3)) (rowArg (after s 4))
    (rowArg (after s 5)) (rowArg (after s 6)) (rowArg (after s 7))
/-- The softmax weights. -/
def alphas : FVec Ideal S128x8 .f32 := k0_pay65 (maxs s)
/-- The weights spread over the lanes they belong to. -/
def spread : FVec Ideal S128x2048 .f32 :=
  k0_pay66 lanes (rowMax (after s 0)) (rowArg (after s 6)) (rowMax (after s 7)) (rowArg (after s 7)) (maxs s)
    (k0_pay61 lanes (rowMax (after s 0)) (rowArg (after s 0)) (rowMax (after s 1)) (rowArg (after s 1)) (rowMax (after s 2))
      (rowArg (after s 2)) (rowMax (after s 3)) (rowArg (after s 3)) (rowMax (after s 4)) (rowArg (after s 4)) (rowMax (after s 5))
      (rowArg (after s 5)))
    (k0_pay62 (rowMax (after s 0)) (rowMax (after s 6)))

variable (ρ : Fin 128) (f : Fin 2048 → EReal) (hf : ∀ j, f j ≠ ⊥) (hs : ∀ j, s (ix2 ρ j) = f j)
include hf hs

/-- Column `k` of the maxima is the `k`-th best score. -/
theorem maxs_at (k : Fin 8) : maxs s (ix2 ρ k) = top f k := by
  rw [← max_at s ρ f hf hs k]
  pointwise [maxs, k0_pay59]
  obtain ⟨k, hk⟩ := k
  interval_cases k <;> rfl

/-- Column `k` of the lanes is the `k`-th best slot. -/
theorem args_at (k : Fin 8) : args s (ix2 ρ k) = BitVec.ofNat 32 (slot f k).val := by
  rw [← arg_at s ρ f hf hs k]
  pointwise [args, k0_pay60]
  obtain ⟨k, hk⟩ := k
  interval_cases k <;> rfl

/-- The softmax weights. -/
theorem alphas_at (k : Fin 8) : alphas s (ix2 ρ k) = alpha f k := by
  unfold alpha weight
  pointwise [alphas, k0_pay65, k0_pay64, k0_pay63]
  simp only [maxs_at s ρ f hf hs]

omit hf hs in
/-- A selection by comparing a lane number with a slot number. -/
theorem select_slot (j p : Fin 2048) (a b : EReal) :
    Scalar.select (IntOp.cmpi .eq (lanes (ix2 ρ j)) (BitVec.ofNat 32 p.val)) a b = if j = p then a else b := by
  pointwise [lanes]
  by_cases e : j = p
  · rw [if_pos e, e]; simp [Scalar.select, IntOp.cmpi]
  · rw [if_neg e]
    have : (BitVec.ofNat 32 j.val == BitVec.ofNat 32 p.val) = false :=
      beq_eq_false_iff_ne.mpr fun h => e ((ofNat_inj _ _).mp h)
    simp [Scalar.select, IntOp.cmpi, this]

omit s ρ hs in
/-- The best score's own weight is one. -/
theorem weight_zero (ht : ∀ j, f j ≠ ⊤) : weight f 0 = 1 := by
  unfold weight top
  rw [EReal.sub_self (ht _) (hf _)]
  change ((Real.exp 0 : ℝ) : EReal) = 1
  simp

/-- The spread weights: the `k`-th weight on the `k`-th best slot, all over the weights' sum. -/
theorem spread_at (ht : ∀ j, f j ≠ ⊤) (j : Fin 2048) :
    spread s (ix2 ρ j) = (∑ k, if j = slot f k then weight f k else 0) * Ideal.div 1 (∑ l, weight f l) := by
  have m := max_at s ρ f hf hs
  have a := arg_at s ρ f hf hs
  have w := weight_zero f hf ht
  have e : ∑ x, Ideal.exp (maxs s (ix2 ρ x) - maxs s (ix2 ρ 0)) = ∑ l, weight f l := by
    simp only [maxs_at s ρ f hf hs]; rfl
  have m0 : rowMax (after s 0) (ix2 ρ 0) = top f 0 := m 0
  have m1 : rowMax (after s 1) (ix2 ρ 0) = top f 1 := m 1
  have m2 : rowMax (after s 2) (ix2 ρ 0) = top f 2 := m 2
  have m3 : rowMax (after s 3) (ix2 ρ 0) = top f 3 := m 3
  have m4 : rowMax (after s 4) (ix2 ρ 0) = top f 4 := m 4
  have m5 : rowMax (after s 5) (ix2 ρ 0) = top f 5 := m 5
  have m6 : rowMax (after s 6) (ix2 ρ 0) = top f 6 := m 6
  have m7 : rowMax (after s 7) (ix2 ρ 0) = top f 7 := m 7
  have a0 : rowArg (after s 0) (ix2 ρ 0) = BitVec.ofNat 32 (slot f 0).val := a 0
  have a1 : rowArg (after s 1) (ix2 ρ 0) = BitVec.ofNat 32 (slot f 1).val := a 1
  have a2 : rowArg (after s 2) (ix2 ρ 0) = BitVec.ofNat 32 (slot f 2).val := a 2
  have a3 : rowArg (after s 3) (ix2 ρ 0) = BitVec.ofNat 32 (slot f 3).val := a 3
  have a4 : rowArg (after s 4) (ix2 ρ 0) = BitVec.ofNat 32 (slot f 4).val := a 4
  have a5 : rowArg (after s 5) (ix2 ρ 0) = BitVec.ofNat 32 (slot f 5).val := a 5
  have a6 : rowArg (after s 6) (ix2 ρ 0) = BitVec.ofNat 32 (slot f 6).val := a 6
  have a7 : rowArg (after s 7) (ix2 ρ 0) = BitVec.ofNat 32 (slot f 7).val := a 7
  pointwise [spread, k0_pay66, k0_pay61, k0_pay62, k0_pay64, k0_pay63]
  rw [e]
  simp only [Fin.sum_univ_eight, m0, m1, m2, m3, m4, m5, m6, m7, a0, a1, a2, a3, a4, a5, a6, a7, select_slot]
  rw [w]
  rfl

end Cert.Router.Kernel
-- ==== Proof.KernelScores.lean ====
/-
  The kernel's 128 rows of scores, for one block of sixteen batch rows: row 8t + h holds the scores of batch row t for
  head h. The kernel spreads a query over eight rows, each keeping the columns of one head and 0 elsewhere, so that one
  product with the keys gives the eight heads' sums.
-/
module

public import proofs.«01_k».proof.Proof.Spec
public import proofs.«01_k».proof.Proof.Gen.KernelIdeal.Skeleton
public import Idealize.ShloMosaic.Lib.Pipeline.ValueKit.Tiles

@[expose] public section

set_option maxRecDepth 16384

noncomputable section

namespace Cert.Router

open Idealize.ShloMosaic

/-- A sum over 128 columns that is 0 off head `h` is the sum over the head's sixteen columns. -/
theorem sum_head (h : Fin 8) (f : Fin 128 → EReal) :
    (∑ d : Fin 128, if h.val = d.val / 16 then f d else 0) = ∑ e : Fin 16, f (headCol h e) := by
  rw [← Equiv.sum_comp (finProdFinEquiv (m := 8) (n := 16)), Fintype.sum_prod_type]
  have e : ∀ (a : Fin 8) (b : Fin 16), (finProdFinEquiv (a, b) : Fin 128) = headCol a b := by
    intro a b; apply Fin.ext; show b.val + 16 * a.val = a.val * 16 + b.val; omega
  have hd : ∀ (a : Fin 8) (b : Fin 16), (headCol a b).val / 16 = a.val := by
    intro a b; show (a.val * 16 + b.val) / 16 = a.val; omega
  refine (Finset.sum_eq_single h ?_ ?_).trans ?_
  · intro a _ ha
    refine Finset.sum_eq_zero fun b _ => ?_
    rw [show (finProdFinEquiv (a, b) : Fin (8 * 16)) = headCol a b from e a b, hd, if_neg fun x => ha (Fin.ext x.symm)]
  · intro x; exact absurd (Finset.mem_univ _) x
  · refine Finset.sum_congr rfl fun b _ => ?_
    rw [show (finProdFinEquiv (h, b) : Fin (8 * 16)) = headCol h b from e h b, hd, if_pos rfl]

/-- Multiplying by a quarter is dividing by four. -/
theorem mul_quarter (x : EReal) : x * Ideal.ofBits .f32 0x3E800000#32 = Ideal.div x (Ideal.ofBits .f32 0x40800000#32) := by
  have h4 : Ideal.ofBits .f32 0x40800000#32 = ((4 : ℝ) : EReal) := by
    simp [Ideal.ofBits, Ideal.ieee, -EReal.coe_mul]; norm_num
  have hq : Ideal.ofBits .f32 0x3E800000#32 = ((1 / 4 : ℝ) : EReal) := by
    simp [Ideal.ofBits, Ideal.ieee, -EReal.coe_mul]; norm_num
  rw [h4, hq, Ideal.div_coe (by norm_num)]

end Cert.Router

namespace Cert.Router.Kernel

open Cert.KernelIdeal Cert.KernelIdeal.Gen Idealize.ShloMosaic Idealize.ShloMosaic.TcCoe

/-- The column numbers of the spread queries. -/
def cols : IVec S128x128 32 := iota .tc S128x128 32 [1] iota_S128x128_d1_w32

/-- The sixteen queries, each spread over eight rows. -/
def spreadQ (q : FVec Ideal S16x128 .f32) : FVec Ideal S128x128 .bf16 := k0_pay5 q k0_pay2 cols 16#32 k0_pay3 k0_pay4

/-- The keys of four batch rows. -/
def keys (wk : FVec Ideal S64x128 .f32) (v : FVec Ideal S1x4x2048x64 .f32) : FVec Ideal S8192x128 .bf16 := k0_pay6 wk v

/-- Eight rows of the spread queries can be cut out for each batch row; -/
theorem slicesQ (t : Fin 16) : S128x128.Slices ![8 * t.val, 0] S8x128 :=
  ⟨rfl, fun a => by have := t.isLt; fin_cases a; · show 8 * t.val + 8 ≤ 128; omega
                    · show 0 + 128 ≤ 128; omega⟩
/-- so can a batch row's keys out of four rows'. -/
theorem slicesK (t : Fin 16) : S8192x128.Slices ![2048 * (t.val % 4), 0] S2048x128 :=
  ⟨rfl, fun a => by fin_cases a; · show 2048 * (t.val % 4) + 2048 ≤ 8192; omega
                    · show 0 + 128 ≤ 128; omega⟩

/-- The eight spread rows of batch row `t`'s query. -/
def rowsQ (t : Fin 16) (qx : FVec Ideal S128x128 .bf16) : FVec Ideal S8x128 .bf16 :=
  extractStridedSlice S8x128 ![8 * t.val, 0] qx (slicesQ t)
/-- The 2048 keys of batch row `t`, out of the keys of its group of four. -/
def rowsK (t : Fin 16) (kg : FVec Ideal S8192x128 .bf16) : FVec Ideal S2048x128 .bf16 :=
  extractStridedSlice S2048x128 ![2048 * (t.val % 4), 0] kg (slicesK t)

/-- The eight rows of scores of batch row `t`. -/
def piece (t : Fin 16) (qx : FVec Ideal S128x128 .bf16) (kg : FVec Ideal S8192x128 .bf16) (e : FVec Ideal S1x2048 .f32) :
    FVec Ideal S8x2048 .f32 :=
  shapeCast S8x2048
    (subf (mulf (matmul dot_S8x128_S2048x128_S8x2048_1_1_0_0_n_n none (rowsQ t qx) (rowsK t kg)
        (constant S8x2048 .f32 0x00000000#32)) (broadcast S8x2048 (Scalar.ofBits .f32 0x3E800000#32)))
      (broadcastTo S8x2048 (mulf (broadcast S1x2048 (Scalar.ofBits .f32 0x3C23D70A#32)) e) broadcasts_S1x2048_S8x2048))
    shapeCasts_S8x2048_S8x2048

/-- The entries of the cut of queries, -/
theorem rowsQ_at (t : Fin 16) (qx : FVec Ideal S128x128 .bf16) (h : Fin 8) (d : Fin 128) :
    rowsQ t qx (ix2 h d) = qx (ix2 ⟨8 * t.val + h.val, by omega⟩ d) := by
  unfold rowsQ extractStridedSlice
  refine congrArg qx (funext fun a => Fin.ext ?_)
  fin_cases a
  · rfl
  · show 0 + d.val = d.val; omega

/-- and of the cut of keys. -/
theorem rowsK_at (t : Fin 16) (kg : FVec Ideal S8192x128 .bf16) (j : Fin 2048) (d : Fin 128) :
    rowsK t kg (ix2 j d) = kg (ix2 ⟨2048 * (t.val % 4) + j.val, by omega⟩ d) := by
  unfold rowsK extractStridedSlice
  refine congrArg kg (funext fun a => Fin.ext ?_)
  fin_cases a
  · rfl
  · show 0 + d.val = d.val; omega

/-- Division rounding down, as the kernel writes it from division rounding to zero. -/
def floorDiv (x w : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt w 0#32)) (Scalar.extui (Scalar.cmpi .slt w 0#32))))
      (IntOp.cmpi .ne (IntOp.remsi ArithUnit.vector x w) 0#32))
    (IntOp.subi (IntOp.divsi ArithUnit.vector x w) 1#32) (IntOp.divsi ArithUnit.vector x w)

/-- The quotient by sixteen, as the body computes it on words, -/
theorem floorDiv_16 : ∀ d : Fin 128, floorDiv (BitVec.ofNat 32 d.val) 16#32 = BitVec.ofNat 32 (d.val / 16) := by decide
/-- and the quotient by eight. -/
theorem floorDiv_8 : ∀ d : Fin 128, floorDiv (BitVec.ofNat 32 d.val) 8#32 = BitVec.ofNat 32 (d.val / 8) := by decide

/-- A selection by comparing two small numbers' words. -/
theorem select_ofNat {a b : ℕ} (ha : a < 2 ^ 32) (hb : b < 2 ^ 32) (x y : EReal) :
    Scalar.select (IntOp.cmpi .eq (BitVec.ofNat 32 a) (BitVec.ofNat 32 b)) x y = if a = b then x else y := by
  by_cases e : a = b
  · rw [if_pos e, e]; simp [Scalar.select, IntOp.cmpi]
  · rw [if_neg e]
    have : (BitVec.ofNat 32 a == BitVec.ofNat 32 b) = false := beq_eq_false_iff_ne.mpr fun h => e (by
      have := congrArg BitVec.toNat h
      rwa [BitVec.toNat_ofNat, BitVec.toNat_ofNat, Nat.mod_eq_of_lt ha, Nat.mod_eq_of_lt hb] at this)
    simp [Scalar.select, IntOp.cmpi, this]

/-- A row number's head, as the kernel computes it. -/
theorem rowHead (ρ d : Fin 128) : k0_pay2 (ix2 ρ d) = BitVec.ofNat 32 (ρ.val % 8) := by
  pointwise [k0_pay2]
  revert ρ; decide

/-- A spread query keeps the columns of its row's head. -/
theorem spreadQ_at (q : FVec Ideal S16x128 .f32) (t : Fin 16) (h : Fin 8) (d : Fin 128) :
    spreadQ q (ix2 ⟨8 * t.val + h.val, by omega⟩ d) = if h.val = d.val / 16 then q (ix2 t d) else 0 := by
  have e := rowHead ⟨8 * t.val + h.val, by omega⟩ d
  rw [show (8 * t.val + h.val) % 8 = h.val by omega] at e
  pointwise [spreadQ, k0_pay5, k0_pay3, k0_pay4, cols]
  rw [e]
  change Scalar.select (IntOp.cmpi .eq (BitVec.ofNat 32 h.val) (floorDiv (BitVec.ofNat 32 d.val) 16#32)) _ _ = _
  rw [floorDiv_16, select_ofNat (by omega) (by omega)]

/-- The keys of a group of four batch rows. -/
theorem keys_at (wk : FVec Ideal S64x128 .f32) (v : FVec Ideal S1x4x2048x64 .f32) (a : Fin 4) (j : Fin 2048) (d : Fin 128) :
    keys wk v (ix2 ⟨2048 * a.val + j.val, by omega⟩ d) = key (fun j x => v (ix4 0 a j x)) (fun x d => wk (ix2 x d)) j d := by
  unfold key
  pointwise [keys, k0_pay6]

/-- A score row is the reference's scores of that batch row and head. -/
theorem piece_at (t : Fin 16) (q : FVec Ideal S16x128 .f32) (wk : FVec Ideal S64x128 .f32) (v : FVec Ideal S1x4x2048x64 .f32)
    (e : FVec Ideal S1x2048 .f32) (h : Fin 8) (j : Fin 2048) :
    piece t (spreadQ q) (keys wk v) e (ix2 h j)
      = score (fun d => q (ix2 t d)) (key (fun j x => v (ix4 0 ⟨t.val % 4, by omega⟩ j x)) (fun x d => wk (ix2 x d)))
          (fun j => e (ix2 0 j)) h j := by
  have hk : ∀ d, keys wk v (ix2 ⟨2048 * (t.val % 4) + j.val, by omega⟩ d) = _ := keys_at wk v ⟨t.val % 4, by omega⟩ j
  unfold score penalty
  pointwise [piece]
  simp only [rowsQ_at, rowsK_at, spreadQ_at, hk, ite_mul, zero_mul]
  rw [sum_head, mul_quarter]
  simp only [mul_comm]

end Cert.Router.Kernel
-- ==== Proof.KernelCombine.lean ====
/-
  The kernel's first result, from the spread weights of its 128 rows: every row's weighted sum of its batch row's
  memories, its projection by Wv, and of a batch row's eight projections the columns of each head.
-/
module

public import proofs.«01_k».proof.Proof.KernelScores
public import Idealize.ShloMosaic.Lib.Pipeline.Value

@[expose] public section

set_option maxRecDepth 16384

noncomputable section

namespace Cert.Router

open Idealize.ShloMosaic

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For finite scores a weight is a positive real. -/
theorem weight_real (f : Fin 2048 → EReal) (g : Fin 2048 → ℝ) (hf : ∀ j, f j = (g j : EReal)) (k : Fin 8) :
    weight f k = (Real.exp (g (slot f k) - g (slot f 0)) : ℝ) := by
  unfold weight top
  rw [hf, hf, ← EReal.coe_sub]
  rfl

/-- Weighting the memories and then projecting is projecting them and then weighting, for finite scores and memories. -/
theorem combine (f : Fin 2048 → EReal) (M : Fin 2048 → Fin 64 → EReal) (Wv : Fin 64 → Fin 64 → EReal)
    (g : Fin 2048 → ℝ) (hf : ∀ j, f j = (g j : EReal)) (m : Fin 2048 → Fin 64 → ℝ) (hM : ∀ j d, M j d = (m j d : EReal))
    (v : Fin 64 → Fin 64 → ℝ) (hv : ∀ d c, Wv d c = (v d c : EReal)) (c : Fin 64) :
    (∑ d, (∑ j, ((∑ k, if j = slot f k then weight f k else 0) * Ideal.div 1 (∑ l, weight f l)) * M j d) * Wv d c)
      = output f M Wv c := by
  let w : Fin 8 → ℝ := fun k => Real.exp (g (slot f k) - g (slot f 0))
  have hw : ∀ k, weight f k = (w k : EReal) := weight_real f g hf
  have hpos : 0 < ∑ l, w l := Finset.sum_pos (fun l _ => Real.exp_pos _) ⟨0, Finset.mem_univ _⟩
  have hS : (∑ l, weight f l) = ((∑ l, w l : ℝ) : EReal) := by rw [coe_sum]; simp only [hw]
  have hdiv : Ideal.div 1 (∑ l, weight f l) = ((1 / ∑ l, w l : ℝ) : EReal) := by
    rw [hS, Ideal.div_coe (ne_of_gt hpos), one_mul]
  have hite : ∀ j, (∑ k, if j = slot f k then weight f k else 0) = ((∑ k, if j = slot f k then w k else 0 : ℝ) : EReal) := by
    intro j
    rw [coe_sum]
    refine Finset.sum_congr rfl fun k _ => ?_
    split
    · exact hw k
    · rfl
  unfold output alpha value
  simp only [hdiv, hite, hM, hv]
  simp only [hw, ← EReal.coe_mul, ← coe_sum, Ideal.div_coe (ne_of_gt hpos)]
  refine congrArg Real.toEReal ?_
  have inner : ∀ d, (∑ j, (∑ k, if j = slot f k then w k else 0) * (1 / ∑ l, w l) * m j d)
      = ∑ k, w k * (1 / ∑ l, w l) * m (slot f k) d := by
    intro d
    simp only [Finset.sum_mul, ite_mul, zero_mul]
    rw [Finset.sum_comm]
    simp only [Finset.sum_ite_eq, Finset.sum_ite_eq', Finset.mem_univ, if_true]
  generalize (1 / ∑ l, w l) = z at inner ⊢
  simp only [inner]
  simp only [Finset.sum_mul, Finset.mul_sum]
  rw [Finset.sum_comm]
  exact Finset.sum_congr rfl fun k _ => Finset.sum_congr rfl fun d _ => mul_assoc _ _ _

end Cert.Router

namespace Cert.Router.Kernel

open Cert.KernelIdeal Cert.KernelIdeal.Gen Idealize.ShloMosaic Idealize.ShloMosaic.TcCoe

/-- Eight rows of the spread weights can be cut out for each batch row. -/
theorem slicesW (t : Fin 16) : S128x2048.Slices ![8 * t.val, 0] S8x2048 :=
  ⟨rfl, fun a => by have := t.isLt; fin_cases a; · show 8 * t.val + 8 ≤ 128; omega
                    · show 0 + 2048 ≤ 2048; omega⟩

/-- Batch row `t`'s eight rows of spread weights. -/
def rowsW (t : Fin 16) (w : FVec Ideal S128x2048 .f32) : FVec Ideal S8x2048 .f32 :=
  extractStridedSlice S8x2048 ![8 * t.val, 0] w (slicesW t)

/-- The cut's entries. -/
theorem rowsW_at (t : Fin 16) (w : FVec Ideal S128x2048 .f32) (h : Fin 8) (j : Fin 2048) :
    rowsW t w (ix2 h j) = w (ix2 ⟨8 * t.val + h.val, by omega⟩ j) := by
  unfold rowsW extractStridedSlice
  refine congrArg w (funext fun a => Fin.ext ?_)
  fin_cases a
  · rfl
  · show 0 + j.val = j.val; omega

/-- Batch row `t`'s eight weighted sums of its memories. -/
def mixed (t : Fin 16) (w : FVec Ideal S128x2048 .f32) (v : FVec Ideal S1x1x2048x64 .f32) : FVec Ideal S8x64 .f32 :=
  matmul dot_S8x2048_S2048x64_S8x64_1_0_0_1_n_n none (rowsW t w) (shapeCast S2048x64 v shapeCasts_S1x1x2048x64_S2048x64)
    (constant S8x64 .f32 0x00000000#32)

/-- A batch row's summed memories, at a head and a coordinate. -/
theorem mixed_at (t : Fin 16) (w : FVec Ideal S128x2048 .f32) (v : FVec Ideal S1x1x2048x64 .f32) (h : Fin 8) (d : Fin 64) :
    mixed t w v (ix2 h d) = ∑ j : Fin 2048, w (ix2 ⟨8 * t.val + h.val, by omega⟩ j) * v (ix4 0 0 j d) := by
  pointwise [mixed]
  simp only [rowsW_at]

/-- The 128 weighted sums, projected. -/
def projected (w : FVec Ideal S128x2048 .f32) (v : Fin 16 → FVec Ideal S1x1x2048x64 .f32) (wv : FVec Ideal S64x64 .f32) :
    FVec Ideal S128x64 .f32 :=
  k0_pay86 (mixed 0 w (v 0)) (mixed 1 w (v 1)) (mixed 2 w (v 2)) (mixed 3 w (v 3)) (mixed 4 w (v 4)) (mixed 5 w (v 5))
    (mixed 6 w (v 6)) (mixed 7 w (v 7)) (mixed 8 w (v 8)) (mixed 9 w (v 9)) (mixed 10 w (v 10)) (mixed 11 w (v 11))
    (mixed 12 w (v 12)) (mixed 13 w (v 13)) (mixed 14 w (v 14)) (rowsW 15 w) (v 15) wv

/-- The 128 weighted sums, one batch row's eight after another's. -/
def stacked (w : FVec Ideal S128x2048 .f32) (v : Fin 16 → FVec Ideal S1x1x2048x64 .f32) : FVec Ideal S128x64 .f32 :=
  concatenate S128x64 0 (List.ofFn fun t : Fin 16 => (⟨S8x64, mixed t w (v t)⟩ : (s : Shape) × (s.Idx → EReal)))
    concatenates_S8x64_S8x64_S8x64_S8x64_S8x64_S8x64_S8x64_S8x64_S8x64_S8x64_S8x64_S8x64_S8x64_S8x64_S8x64_S8x64_S128x64_d0

/-- The projection is the product of the stacked sums with the value weights. -/
theorem projected_eq (w : FVec Ideal S128x2048 .f32) (v : Fin 16 → FVec Ideal S1x1x2048x64 .f32) (wv : FVec Ideal S64x64 .f32) :
    projected w v wv = matmul dot_S128x64_S64x64_S128x64_1_0_0_1_n_n none (stacked w v) wv (constant S128x64 .f32 0x00000000#32) := rfl

/-- The stacked sums at a batch row, head and coordinate. -/
theorem stacked_at (w : FVec Ideal S128x2048 .f32) (v : Fin 16 → FVec Ideal S1x1x2048x64 .f32) (t : Fin 16) (h : Fin 8) (d : Fin 64) :
    stacked w v (ix2 ⟨8 * t.val + h.val, by omega⟩ d)
      = ∑ j : Fin 2048, w (ix2 ⟨8 * t.val + h.val, by omega⟩ j) * v t (ix4 0 0 j d) := by
  rw [← mixed_at]
  refine concatenate_ofFn_apply (t := S128x64) (s₁ := S8x64) 0 (fun t => mixed t w (v t)) _ rfl 8 rfl _ t ?_ (ix2 h d) ?_ ?_
  · show (8 * t.val + h.val) / 8 = t.val; omega
  · show h.val = (8 * t.val + h.val) % 8; omega
  · intro b hb
    fin_cases b
    · exact absurd rfl hb
    · rfl

/-- The projected sums at a batch row, head and column. -/
theorem projected_at (w : FVec Ideal S128x2048 .f32) (v : Fin 16 → FVec Ideal S1x1x2048x64 .f32) (wv : FVec Ideal S64x64 .f32)
    (t : Fin 16) (h : Fin 8) (c : Fin 64) :
    projected w v wv (ix2 ⟨8 * t.val + h.val, by omega⟩ c)
      = ∑ d : Fin 64, (∑ j : Fin 2048, w (ix2 ⟨8 * t.val + h.val, by omega⟩ j) * v t (ix4 0 0 j d)) * wv (ix2 d c) := by
  rw [projected_eq]
  pointwise []
  simp only [stacked_at]

/-- The block of results. -/
def picked (p : FVec Ideal S128x64 .f32) : FVec Ideal S16x64 .f32 := k0_pay92 p k0_pay87 k0_pay88 k0_pay89 k0_pay90 k0_pay91

/-- The remainder rounding down, as the kernel writes it from the remainder rounding to zero. -/
def floorRem (x w : BitVec 32) : BitVec 32 :=
  Scalar.select
    (IntOp.andi
      (IntOp.xori (IntOp.cmpi .slt (IntOp.remsi ArithUnit.vector x (Scalar.select (Scalar.cmpi .eq w 0#32) 1#32 w)) 0#32)
        (Scalar.cmpi .slt (Scalar.select (Scalar.cmpi .eq w 0#32) 1#32 w) 0#32))
      (IntOp.cmpi .ne (IntOp.remsi ArithUnit.vector x (Scalar.select (Scalar.cmpi .eq w 0#32) 1#32 w)) 0#32))
    (IntOp.addi (IntOp.remsi ArithUnit.vector x (Scalar.select (Scalar.cmpi .eq w 0#32) 1#32 w))
      (Scalar.select (Scalar.cmpi .eq w 0#32) 1#32 w))
    (IntOp.remsi ArithUnit.vector x (Scalar.select (Scalar.cmpi .eq w 0#32) 1#32 w))

/-- The remainder by eight, as the body computes it on words. -/
theorem floorRem_8 : ∀ x : Fin 128, floorRem (BitVec.ofNat 32 x.val) 8#32 = BitVec.ofNat 32 (x.val % 8) := by decide

/-- Of a batch row's eight projections, column `c` is that of the column's head. -/
theorem picked_at (p : FVec Ideal S128x64 .f32) (b : Fin 16) (c : Fin 64) :
    picked p (ix2 b c) = p (ix2 ⟨8 * b.val + (headOf c).val, by have := (headOf c).isLt; omega⟩ c) := by
  pointwise [picked, k0_pay92, k0_pay88, k0_pay89, k0_pay90, k0_pay91, k0_pay87]
  change (∑ x : Fin 128, Scalar.select (IntOp.cmpi .eq (floorRem (BitVec.ofNat 32 x.val) 8#32) (floorDiv (BitVec.ofNat 32 c.val) 8#32))
      (Scalar.select (IntOp.cmpi .eq (BitVec.ofNat 32 b.val) (floorDiv (BitVec.ofNat 32 x.val) 8#32)) (p (ix2 x c)) 0) 0) = _
  have hc : floorDiv (BitVec.ofNat 32 c.val) 8#32 = BitVec.ofNat 32 (headOf c).val := floorDiv_8 ⟨c.val, by omega⟩
  have hh := (headOf c).isLt
  simp only [hc, floorRem_8, floorDiv_8]
  refine (Finset.sum_eq_single ⟨8 * b.val + (headOf c).val, by omega⟩ ?_ ?_).trans ?_
  · intro x _ hx
    rw [select_ofNat (by omega) (by omega), select_ofNat (by omega) (by omega)]
    by_cases h1 : x.val % 8 = (headOf c).val
    · rw [if_pos h1, if_neg]
      intro h2
      exact hx (Fin.ext (by show x.val = 8 * b.val + (headOf c).val; omega))
    · rw [if_neg h1]
  · intro x; exact absurd (Finset.mem_univ _) x
  · rw [select_ofNat (by omega) (by omega), select_ofNat (by omega) (by omega),
      if_pos (by show (8 * b.val + (headOf c).val) % 8 = _; omega), if_pos (by show b.val = (8 * b.val + (headOf c).val) / 8; omega)]

end Cert.Router.Kernel
-- ==== Proof.KernelBlock.lean ====
/-
  What the kernel leaves at one grid point, over the extended reals: for its sixteen batch rows, the results of the
  specification.
-/
module

public import proofs.«01_k».proof.Proof.KernelIdealBody
public import proofs.«01_k».proof.Proof.KernelRounds
public import proofs.«01_k».proof.Proof.KernelCombine

@[expose] public section

set_option maxRecDepth 16384

noncomputable section

namespace Cert.Router.Kernel

open Cert.KernelIdeal Cert.KernelIdeal.Gen Cert.KernelIdeal.Body Idealize.ShloMosaic Idealize.ShloMosaic.TcCoe

variable (c : Dev nD) (XA : Buf (Elt Ideal) (memM.view.loc (c : Thread nD τ))) (i : grid0.Coords)

/-- The buffer with the point's block in its slot. -/
abbrev ring : ringM.view.ty.Contents (Elt Ideal) :=
  (rslot (Ring.sl 3 (i 0).val)).view.writes (Elt Ideal) (rslot (Ring.sl 3 (i 0).val)).view.junk
    [⟨Rect.whole S16x2048x64, payload c XA (Ring.bk 64 (i 0).val)⟩]

/-- A row of a slot is that row of the buffer at the slot. -/
theorem rslot_emb (s : Fin 3) (r : Fin 16) (j : Fin 2048) (d : Fin 64) :
    (rslot s).view.emb (ix3 r j d) = ringM.view.emb (ix4 s r j d) := by
  have e : shapeCast S16x2048x64 (fun y : S1x16x2048x64.Idx => y) (by decide) (ix3 r j d) = ix4 0 r j d := by
    pointwise []
  refine congrArg ringM.view.emb ?_
  show (Rect.unit (s := S3x16x2048x64) (slotOff s) S1x16x2048x64.size (slotOff_inb s)).emb
    (shapeCast S16x2048x64 (fun y : S1x16x2048x64.Idx => y) (by decide) (ix3 r j d)) = _
  rw [e]
  funext a
  apply Fin.ext
  fin_cases a
  · show s.val + 1 * 0 = s.val; omega
  · show 0 + 1 * r.val = r.val; omega
  · show 0 + 1 * j.val = j.val; omega
  · show 0 + 1 * d.val = d.val; omega

/-- The buffer read at a row of the point's slot: that row of the point's block. -/
theorem ring_at (r : Fin 16) (j : Fin 2048) (d : Fin 64) :
    ringM.view.read (Elt Ideal) (ring c XA i) (ix4 (Ring.sl 3 (i 0).val) r j d) = payload c XA (Ring.bk 64 (i 0).val) (ix3 r j d) := by
  have h := congrFun (View.read_writes_whole (rslot (Ring.sl 3 (i 0).val)).view (rslot (Ring.sl 3 (i 0).val)).view.junk
    (payload c XA (Ring.bk 64 (i 0).val))) (ix3 r j d)
  rw [← h, View.read_apply, View.read_apply, rslot_emb]
  rfl

/-- A load of `n` rows of the point's slot from row `r`. -/
theorem load_at (n r : ℕ) (off : Fin 4 → ℕ) (ho : off = rowOff i r)
    (inb : ∀ a, off a + (⟨4, ![1, n, 2048, 64]⟩ : Shape).size a ≤ S3x16x2048x64.size a)
    (V : (⟨4, ![1, n, 2048, 64]⟩ : Shape).Idx → EReal)
    (hV : V = ringM.view.readAt (Elt Ideal) (Rect.unit (s := S3x16x2048x64) off (⟨4, ![1, n, 2048, 64]⟩ : Shape).size inb).toLoadRect
      (ring c XA i)) (b : Fin n) (r' : Fin 16) (hr : r'.val = r + b.val) (j : Fin 2048) (d : Fin 64) :
    V (ix4 0 b j d) = payload c XA (Ring.bk 64 (i 0).val) (ix3 r' j d) := by
  subst ho hV
  rw [View.readAt_apply, ← ring_at]
  refine congrArg _ ?_
  funext a
  apply Fin.ext
  fin_cases a
  · show (Ring.sl 3 (i 0).val).val + 1 * 0 = (Ring.sl 3 (i 0).val).val; omega
  · show r + 1 * b.val = r'.val; omega
  · show 0 + 1 * j.val = j.val; omega
  · show 0 + 1 * d.val = d.val; omega

attribute [local irreducible] midRun.sl.v65 midRun.sl.v123 midRun.sl.v181 midRun.sl.v239 midRun.sl.v476 midRun.sl.v481
  midRun.sl.v486 midRun.sl.v491 midRun.sl.v496 midRun.sl.v501 midRun.sl.v506 midRun.sl.v511 midRun.sl.v516 midRun.sl.v521
  midRun.sl.v526 midRun.sl.v531 midRun.sl.v536 midRun.sl.v541 midRun.sl.v546 midRun.sl.v551

/-- The four loads of four batch rows. -/
def fours : Fin 4 → FVec Ideal S1x4x2048x64 .f32 :=
  ![midRun.sl.v65 c XA i, midRun.sl.v123 c XA i, midRun.sl.v181 c XA i, midRun.sl.v239 c XA i]
/-- The sixteen loads of one batch row. -/
def ones : Fin 16 → FVec Ideal S1x1x2048x64 .f32 :=
  ![midRun.sl.v476 c XA i, midRun.sl.v481 c XA i, midRun.sl.v486 c XA i, midRun.sl.v491 c XA i, midRun.sl.v496 c XA i,
    midRun.sl.v501 c XA i, midRun.sl.v506 c XA i, midRun.sl.v511 c XA i, midRun.sl.v516 c XA i, midRun.sl.v521 c XA i,
    midRun.sl.v526 c XA i, midRun.sl.v531 c XA i, midRun.sl.v536 c XA i, midRun.sl.v541 c XA i, midRun.sl.v546 c XA i,
    midRun.sl.v551 c XA i]

/-- The loads of four rows hold the point's block. -/
theorem fours_at (a b : Fin 4) (r' : Fin 16) (hr : r'.val = 4 * a.val + b.val) (j : Fin 2048) (d : Fin 64) :
    fours c XA i a (ix4 0 b j d) = payload c XA (Ring.bk 64 (i 0).val) (ix3 r' j d) := by
  obtain ⟨a, ha⟩ := a
  have hr' : r'.val = 4 * a + b.val := hr
  interval_cases a
  · refine load_at c XA i 4 0 (k0_off4 i) (rowOff_eq i 0) ?_ (midRun.sl.v65 c XA i) ?_ b r' hr' j d
    rotate_left
    · unfold midRun.sl.v65; rfl
  · refine load_at c XA i 4 4 (k0_off5 i) (rowOff_eq i 4) ?_ (midRun.sl.v123 c XA i) ?_ b r' hr' j d
    rotate_left
    · unfold midRun.sl.v123; rfl
  · refine load_at c XA i 4 8 (k0_off6 i) (rowOff_eq i 8) ?_ (midRun.sl.v181 c XA i) ?_ b r' hr' j d
    rotate_left
    · unfold midRun.sl.v181; rfl
  · refine load_at c XA i 4 12 (k0_off7 i) (rowOff_eq i 12) ?_ (midRun.sl.v239 c XA i) ?_ b r' hr' j d
    rotate_left
    · unfold midRun.sl.v239; rfl

/-- The loads of one row hold the point's block. -/
theorem ones_at (t : Fin 16) (j : Fin 2048) (d : Fin 64) :
    ones c XA i t (ix4 0 0 j d) = payload c XA (Ring.bk 64 (i 0).val) (ix3 t j d) := by
  have h : ∀ (V : FVec Ideal S1x1x2048x64 .f32) (r : Fin 16) (off : Fin 4 → ℕ) (ho : off = rowOff i r.val)
      (inb : ∀ a, off a + S1x1x2048x64.size a ≤ S3x16x2048x64.size a),
      V = ringM.view.readAt (Elt Ideal) (Rect.unit (s := S3x16x2048x64) off S1x1x2048x64.size inb).toLoadRect (ring c XA i) →
        V (ix4 0 0 j d) = payload c XA (Ring.bk 64 (i 0).val) (ix3 r j d) :=
    fun V r off ho inb hV => load_at c XA i 1 r.val off ho inb V hV 0 r (Nat.add_zero _).symm j d
  have e := rowOff_eq i
  obtain ⟨t, ht⟩ := t
  interval_cases t
  · refine h (midRun.sl.v476 c XA i) 0 (k0_off8 i) (e 0) ?_ ?_; rotate_left; · unfold midRun.sl.v476; rfl
  · refine h (midRun.sl.v481 c XA i) 1 (k0_off9 i) (e 1) ?_ ?_; rotate_left; · unfold midRun.sl.v481; rfl
  · refine h (midRun.sl.v486 c XA i) 2 (k0_off10 i) (e 2) ?_ ?_; rotate_left; · unfold midRun.sl.v486; rfl
  · refine h (midRun.sl.v491 c XA i) 3 (k0_off11 i) (e 3) ?_ ?_; rotate_left; · unfold midRun.sl.v491; rfl
  · refine h (midRun.sl.v496 c XA i) 4 (k0_off12 i) (e 4) ?_ ?_; rotate_left; · unfold midRun.sl.v496; rfl
  · refine h (midRun.sl.v501 c XA i) 5 (k0_off13 i) (e 5) ?_ ?_; rotate_left; · unfold midRun.sl.v501; rfl
  · refine h (midRun.sl.v506 c XA i) 6 (k0_off14 i) (e 6) ?_ ?_; rotate_left; · unfold midRun.sl.v506; rfl
  · refine h (midRun.sl.v511 c XA i) 7 (k0_off15 i) (e 7) ?_ ?_; rotate_left; · unfold midRun.sl.v511; rfl
  · refine h (midRun.sl.v516 c XA i) 8 (k0_off16 i) (e 8) ?_ ?_; rotate_left; · unfold midRun.sl.v516; rfl
  · refine h (midRun.sl.v521 c XA i) 9 (k0_off17 i) (e 9) ?_ ?_; rotate_left; · unfold midRun.sl.v521; rfl
  · refine h (midRun.sl.v526 c XA i) 10 (k0_off18 i) (e 10) ?_ ?_; rotate_left; · unfold midRun.sl.v526; rfl
  · refine h (midRun.sl.v531 c XA i) 11 (k0_off19 i) (e 11) ?_ ?_; rotate_left; · unfold midRun.sl.v531; rfl
  · refine h (midRun.sl.v536 c XA i) 12 (k0_off20 i) (e 12) ?_ ?_; rotate_left; · unfold midRun.sl.v536; rfl
  · refine h (midRun.sl.v541 c XA i) 13 (k0_off21 i) (e 13) ?_ ?_; rotate_left; · unfold midRun.sl.v541; rfl
  · refine h (midRun.sl.v546 c XA i) 14 (k0_off22 i) (e 14) ?_ ?_; rotate_left; · unfold midRun.sl.v546; rfl
  · refine h (midRun.sl.v551 c XA i) 15 (k0_off23 i) (e 15) ?_ ?_; rotate_left; · unfold midRun.sl.v551; rfl

/-! ## The staged operands and the scores -/

variable (arg1 : Memref sig .tc .vmem S16x1792 .f32) (arg2 : Memref sig .tc .vmem S16x2048 .f32)
  (arg4 : Memref sig .tc .vmem S1792x128 .f32) (arg5 : Memref sig .tc .vmem S64x128 .f32) (arg6 : Memref sig .tc .vmem S64x64 .f32)
  (x1 : Vec Ideal S16x1792 .f32) (x2 : Vec Ideal S16x2048 .f32) (x4 : Vec Ideal S1792x128 .f32) (x5 : Vec Ideal S64x128 .f32)
  (x6 : Vec Ideal S64x64 .f32)

/-- The sixteen queries. -/
theorem query_at (t : Fin 16) (d : Fin 128) :
    midRun.sl.r arg1 arg4 x1 x4 (ix2 t d) = query (fun i => x1 (ix2 t i)) (fun i d => x4 (ix2 i d)) d := by
  unfold midRun.sl.r
  rw [View.readAt_rep, View.readAt_rep]
  unfold query
  pointwise [k0_pay1]

/-- The projection of the keys, loaded. -/
theorem wk_at (d : Fin 64) (e : Fin 128) : midRun.sl.r_2 arg5 x5 (ix2 d e) = x5 (ix2 d e) := by
  unfold midRun.sl.r_2
  rw [View.readAt_rep]
  refine congrArg x5 (funext fun a => Fin.ext ?_)
  fin_cases a
  · show 0 + 1 * d.val = d.val; omega
  · show 0 + 1 * e.val = e.val; omega

/-- Row `t` lies in the block of usage averages. -/
theorem inbE (t : Fin 16) : ∀ a, (![t.val, 0] : Fin 2 → ℕ) a + S1x2048.size a ≤ S16x2048.size a := by
  have := t.isLt; intro a; fin_cases a
  · show t.val + 1 ≤ 16; omega
  · show 0 + 2048 ≤ 2048; omega

/-- Batch row `t`'s row of loads. -/
def ema (t : Fin 16) : FVec Ideal S1x2048 .f32 :=
  arg2.view.readAt (Elt Ideal) (Rect.unit (s := S16x2048) ![t.val, 0] S1x2048.size (inbE t)).toLoadRect (arg2.view.rep x2)

/-- Row `t` as the body loads it. -/
theorem ema_at (t : Fin 16) (j : Fin 2048) : ema arg2 x2 t (ix2 0 j) = x2 (ix2 t j) := by
  unfold ema
  rw [View.readAt_rep]
  refine congrArg x2 (funext fun a => Fin.ext ?_)
  fin_cases a
  · show t.val + 1 * 0 = t.val; omega
  · show 0 + 1 * j.val = j.val; omega

/-- The eight rows of batch row `t` lie in the buffer of scores. -/
theorem inbS (t : Fin 16) : ∀ a, (![8 * t.val, 0] : Fin 2 → ℕ) a + S8x2048.size a ≤ S128x2048.size a := by
  have := t.isLt; intro a; fin_cases a
  · show 8 * t.val + 8 ≤ 128; omega
  · show 0 + 2048 ≤ 2048; omega

/-- Batch row `t`'s eight rows of scores, and where they are stored. -/
def store (t : Fin 16) : View.Piece (Elt Ideal) S128x2048 .f32 :=
  ⟨Rect.unit (s := S128x2048) ![8 * t.val, 0] S8x2048.size (inbS t),
    piece t (spreadQ (midRun.sl.r arg1 arg4 x1 x4)) (keys (midRun.sl.r_2 arg5 x5) (fours c XA i ⟨t.val / 4, by omega⟩)) (ema arg2 x2 t)⟩

/-- The buffer of scores is stored row group by row group, the sixteen groups alike. -/
theorem stores_eq : midRun.sl.Hs_16 c XA i arg1 arg2 arg4 arg5 x1 x2 x4 x5
    = [15, 14, 13, 12, 11, 10, 9, 8, 7, 6, 5, 4, 3, 2, 1, 0].map (store c XA i arg1 arg2 arg4 arg5 x1 x2 x4 x5) := by
  rfl

/-- The scores of the point's batch row `t` for head `h`. -/
abbrev rowScores (t : Fin 16) (h : Fin 8) : Fin 2048 → EReal :=
  score (query (fun i => x1 (ix2 t i)) (fun i d => x4 (ix2 i d)))
    (key (fun j d => payload c XA (Ring.bk 64 (i 0).val) (ix3 t j d)) (fun d e => x5 (ix2 d e))) (fun j => x2 (ix2 t j)) h

/-- One store's payload at an index. -/
theorem store_at (t : Fin 16) (h : Fin 8) (j : Fin 2048) :
    piece t (spreadQ (midRun.sl.r arg1 arg4 x1 x4)) (keys (midRun.sl.r_2 arg5 x5) (fours c XA i ⟨t.val / 4, by omega⟩)) (ema arg2 x2 t)
      (ix2 h j) = rowScores c XA i x1 x2 x4 x5 t h j := by
  rw [piece_at]
  simp only [query_at, wk_at, ema_at]
  have e : ∀ j d, fours c XA i ⟨t.val / 4, by omega⟩ (ix4 0 ⟨t.val % 4, by omega⟩ j d)
      = payload c XA (Ring.bk 64 (i 0).val) (ix3 t j d) :=
    fun j d => fours_at c XA i _ _ t (by show t.val = 4 * (t.val / 4) + t.val % 4; omega) j d
  simp only [e]

/-- The buffer of scores, loaded whole. -/
theorem scores_at (t : Fin 16) (h : Fin 8) (j : Fin 2048) :
    midRun.sl.v296 c XA i arg1 arg2 arg4 arg5 x1 x2 x4 x5 (ix2 ⟨8 * t.val + h.val, by omega⟩ j)
      = rowScores c XA i x1 x2 x4 x5 t h j := by
  unfold midRun.sl.v296
  rw [View.readCov_eq_canon', stores_eq]
  have e : (Rect.unit (s := S128x2048) ![0, 0] S128x2048.size inb_S128x2048_S128x2048_0_0).toLoadRect.idx
      (ix2 ⟨8 * t.val + h.val, by omega⟩ j) = ix2 ⟨8 * t.val + h.val, by omega⟩ j := by
    funext a; apply Fin.ext; fin_cases a
    · show 0 + 1 * (8 * t.val + h.val) = 8 * t.val + h.val; omega
    · show 0 + 1 * j.val = j.val; omega
  show View.canon _ ((Rect.unit (s := S128x2048) ![0, 0] S128x2048.size inb_S128x2048_S128x2048_0_0).toLoadRect.idx
      (ix2 ⟨8 * t.val + h.val, by omega⟩ j)) = _
  rw [e]
  refine View.canon_eq_of_allAt _ _ _ ?_ ?_
  · refine ⟨store c XA i arg1 arg2 arg4 arg5 x1 x2 x4 x5 t, List.mem_map.mpr ⟨t, by fin_cases t <;> decide, rfl⟩, ?_⟩
    show _ ∈ (Rect.unit (s := S128x2048) ![8 * t.val, 0] S8x2048.size (inbS t)).set
    rw [Rect.mem_set_unit]
    intro a
    fin_cases a
    · show 8 * t.val ≤ 8 * t.val + h.val ∧ 8 * t.val + h.val < 8 * t.val + 8; omega
    · show 0 ≤ j.val ∧ j.val < 0 + 2048; omega
  · intro p hp x hx
    obtain ⟨u, -, rfl⟩ := List.mem_map.mp hp
    rw [← store_at c XA i arg1 arg2 arg4 arg5 x1 x2 x4 x5 t h j]
    have h0 : 8 * u.val + 1 * (x 0).val = 8 * t.val + h.val := congrArg (fun y : S128x2048.Idx => (y 0).val) hx
    have h1 : 0 + 1 * (x 1).val = j.val := congrArg (fun y : S128x2048.Idx => (y 1).val) hx
    have hx0 : (x 0).val < 8 := (x 0).isLt
    obtain rfl : u = t := Fin.ext (by omega)
    refine congrArg (store c XA i arg1 arg2 arg4 arg5 x1 x2 x4 x5 u).2 (funext fun a => Fin.ext ?_)
    fin_cases a
    · show (x 0).val = h.val; omega
    · show (x 1).val = j.val; omega

/-- The projection of the values, loaded. -/
def wvLoad : FVec Ideal S64x64 .f32 :=
  arg6.view.readAt (Elt Ideal) (Rect.unit (s := S64x64) ![0, 0] S64x64.size inb_S64x64_S64x64_0_0).toLoadRect (arg6.view.rep x6)

/-- The value weights as the body loads them. -/
theorem wv_at (d e : Fin 64) : wvLoad arg6 x6 (ix2 d e) = x6 (ix2 d e) := by
  unfold wvLoad
  rw [View.readAt_rep]
  refine congrArg x6 (funext fun a => Fin.ext ?_)
  fin_cases a
  · show 0 + 1 * d.val = d.val; omega
  · show 0 + 1 * e.val = e.val; omega

/-- The point's block of `r`, as the rows' weighted sums, projected and picked. -/
theorem outR_eq : outR c XA i arg1 arg2 arg4 arg5 arg6 x1 x2 x4 x5 x6
    = picked (projected (spread (midRun.sl.v296 c XA i arg1 arg2 arg4 arg5 x1 x2 x4 x5)) (ones c XA i) (wvLoad arg6 x6)) := rfl

/-- The point's block of `r`, for finite scores, memories and projection. -/
theorem outR_at (g : Fin 16 → Fin 8 → Fin 2048 → ℝ) (hg : ∀ t h j, rowScores c XA i x1 x2 x4 x5 t h j = (g t h j : EReal))
    (m : Fin 16 → Fin 2048 → Fin 64 → ℝ) (hm : ∀ t j d, payload c XA (Ring.bk 64 (i 0).val) (ix3 t j d) = (m t j d : EReal))
    (v : Fin 64 → Fin 64 → ℝ) (hv : ∀ d e, x6 (ix2 d e) = (v d e : EReal)) (t : Fin 16) (e : Fin 64) :
    outR c XA i arg1 arg2 arg4 arg5 arg6 x1 x2 x4 x5 x6 (ix2 t e)
      = output (rowScores c XA i x1 x2 x4 x5 t (headOf e)) (fun j d => payload c XA (Ring.bk 64 (i 0).val) (ix3 t j d))
          (fun d e => x6 (ix2 d e)) e := by
  have hb : ∀ j, rowScores c XA i x1 x2 x4 x5 t (headOf e) j ≠ ⊥ := fun j => by rw [hg]; exact EReal.coe_ne_bot _
  have ht : ∀ j, rowScores c XA i x1 x2 x4 x5 t (headOf e) j ≠ ⊤ := fun j => by rw [hg]; exact EReal.coe_ne_top _
  rw [outR_eq, picked_at, projected_at]
  simp only [spread_at _ _ _ hb (scores_at c XA i arg1 arg2 arg4 arg5 x1 x2 x4 x5 t (headOf e)) ht, ones_at, wv_at]
  exact combine _ _ _ (g t (headOf e)) (hg t (headOf e)) (m t) (hm t) v hv e

/-! ## The indices and the weights -/

variable (hb : ∀ t h j, rowScores c XA i x1 x2 x4 x5 t h j ≠ ⊥)
include hb

/-- The point's block of indices. -/
theorem outI_at (t : Fin 16) (h k : Fin 8) :
    outI c XA i arg1 arg2 arg4 arg5 x1 x2 x4 x5 (ix2 ⟨8 * t.val + h.val, by omega⟩ k)
      = BitVec.ofNat 32 (slot (rowScores c XA i x1 x2 x4 x5 t h) k).val := by
  have e : outI c XA i arg1 arg2 arg4 arg5 x1 x2 x4 x5 = args (midRun.sl.v296 c XA i arg1 arg2 arg4 arg5 x1 x2 x4 x5) := rfl
  rw [e]
  exact args_at _ _ _ (hb t h) (scores_at c XA i arg1 arg2 arg4 arg5 x1 x2 x4 x5 t h) k

/-- The point's block of weights. -/
theorem outA_at (t : Fin 16) (h k : Fin 8) :
    outA c XA i arg1 arg2 arg4 arg5 x1 x2 x4 x5 (ix2 ⟨8 * t.val + h.val, by omega⟩ k)
      = alpha (rowScores c XA i x1 x2 x4 x5 t h) k := by
  have e : outA c XA i arg1 arg2 arg4 arg5 x1 x2 x4 x5 = alphas (midRun.sl.v296 c XA i arg1 arg2 arg4 arg5 x1 x2 x4 x5) := rfl
  rw [e]
  exact alphas_at _ _ _ (hb t h) (scores_at c XA i arg1 arg2 arg4 arg5 x1 x2 x4 x5 t h) k

end Cert.Router.Kernel
-- ==== Proof.RefTopK.lean ====
/-
  The host's top-k of a box along its last axis, at an index: the entry, and the position, of the row's sorted order.
-/
module

public import proofs.«01_k».proof.Proof.TopK
public import Idealize.ShloMosaic.Lib.Pointwise

@[expose] public section

noncomputable section

namespace Cert.Router

open Idealize.ShloMosaic

/-- A box's row. -/
def rowOf {a b n : ℕ} (x : (⟨3, ![a, b, n]⟩ : Shape).Idx → EReal) (i : Fin a) (h : Fin b) : Fin n → EReal :=
  fun j => x (ix3 i h j)

/-- The host's comparison on the extended reals. -/
theorem cmpTotal_gt (x y : EReal) : (Ideal.cmpTotal .gt x y == 1#1) = decide (y < x) := by
  by_cases h : y < x <;> simp [Ideal.cmpTotal, Ideal.cmp, CmpDirection.ordered, h]

/-- Replacing the last coordinate of an index. -/
theorem along_last {a b n : ℕ} (i : Fin a) (h : Fin b) (k p : Fin n) :
    (ix3 i h k : (⟨3, ![a, b, n]⟩ : Shape).Idx).along (2 : Fin 3) p = ix3 i h p := by
  funext d; fin_cases d <;> rfl

/-- Sorting pairs along the last axis sorts each row's positions. -/
theorem sort2_last {a b n : ℕ} (x : (⟨3, ![a, b, n]⟩ : Shape).Idx → EReal) (y : IVec ⟨3, ![a, b, n]⟩ 32)
    (i : Fin a) (h : Fin b) (k : Fin n) :
    (Host.sort2 ⟨3, ![a, b, n]⟩ 2 (fun l r : EReal × BitVec 32 => Ideal.cmpTotal .gt l.1 r.1) x y).1 (ix3 i h k)
        = rowOf x i h (pick (rowOf x i h) k)
      ∧ (Host.sort2 ⟨3, ![a, b, n]⟩ 2 (fun l r : EReal × BitVec 32 => Ideal.cmpTotal .gt l.1 r.1) x y).2 (ix3 i h k)
        = y (ix3 i h (pick (rowOf x i h) k)) := by
  have hd : 2 < (⟨3, ![a, b, n]⟩ : Shape).rank := by show 2 < 3; decide
  have key : sortedFrom (fun p q : Fin n => Ideal.cmpTotal .gt
      (x ((ix3 i h k : (⟨3, ![a, b, n]⟩ : Shape).Idx).along (2 : Fin 3) p))
      (x ((ix3 i h k : (⟨3, ![a, b, n]⟩ : Shape).Idx).along (2 : Fin 3) q)) == 1#1) k = pick (rowOf x i h) k := by
    unfold pick rowOf
    refine congrArg (fun g => sortedFrom g k) ?_
    funext p q
    rw [cmpTotal_gt, along_last, along_last]
  unfold Host.sort2
  rw [dif_pos hd]
  have at' (p : Fin n) (e : p = pick (rowOf x i h) k) :
      (ix3 i h k : (⟨3, ![a, b, n]⟩ : Shape).Idx).along (2 : Fin 3) p = ix3 i h (pick (rowOf x i h) k) := by
    subst e; exact along_last i h k _
  exact ⟨congrArg x (at' _ key), congrArg y (at' _ key)⟩

/-- The host's top-k at an index: the entry at the row's `k`-th sorted position, and that position as a word. -/
theorem topK_at {a b n κ : ℕ} (hκ : κ ≤ n) (x : FVec Ideal ⟨3, ![a, b, n]⟩ .f32)
    (hs : (⟨3, ![a, b, n]⟩ : Shape).Slices (fun _ => 0) (⟨3, ![a, b, κ]⟩ : Shape)) (i : Fin a) (h : Fin b) (k : Fin κ) :
    (Host.topK (s := ⟨3, ![a, b, n]⟩) ⟨3, ![a, b, κ]⟩ 2 (FloatOps.cmpfTotal (F := Ideal) (φ := .f32) .gt) x hs).1 (ix3 i h k)
        = rowOf x i h (pick (rowOf x i h) (k.castLE hκ))
      ∧ (Host.topK (s := ⟨3, ![a, b, n]⟩) ⟨3, ![a, b, κ]⟩ 2 (FloatOps.cmpfTotal (F := Ideal) (φ := .f32) .gt) x hs).2 (ix3 i h k)
        = BitVec.ofNat 32 (pick (rowOf x i h) (k.castLE hκ)).val := by
  unfold Host.topK
  have e := sort2_last x (fun i => if hd : 2 < (⟨3, ![a, b, n]⟩ : Shape).rank then iotaInDim ⟨3, ![a, b, n]⟩ 32 ⟨2, hd⟩ i else 0#32)
    i h (k.castLE hκ)
  have src : ∀ (v : (⟨3, ![a, b, n]⟩ : Shape).Idx → EReal), extractStridedSlice ⟨3, ![a, b, κ]⟩ (fun _ => 0) v hs (ix3 i h k)
      = v (ix3 i h (k.castLE hκ)) := fun v => extractStridedSlice_apply _ v hs _ _ (by
        intro d; fin_cases d <;> simp [ix3])
  have src' : ∀ (v : IVec ⟨3, ![a, b, n]⟩ 32), extractStridedSlice ⟨3, ![a, b, κ]⟩ (fun _ => 0) v hs (ix3 i h k)
      = v (ix3 i h (k.castLE hκ)) := fun v => extractStridedSlice_apply _ v hs _ _ (by
        intro d; fin_cases d <;> simp [ix3])
  refine ⟨(src _).trans e.1, ((src' _).trans e.2).trans ?_⟩
  have hd : 2 < (⟨3, ![a, b, n]⟩ : Shape).rank := by show 2 < 3; decide
  rw [dif_pos hd]
  rfl

end Cert.Router
-- ==== Proof.RefValue.lean ====
/-
  The reference's three results, at an index.
-/
module

public import proofs.«01_k».proof.Proof.Spec
public import proofs.«01_k».proof.Proof.RefTopK
public import proofs.«01_k».proof.Proof.Gen.ReferenceIdeal.Run

@[expose] public section

set_option maxRecDepth 16384

noncomputable section

namespace Cert.Router.Ref

open Cert.ReferenceIdeal Cert.ReferenceIdeal.Gen Idealize.ShloMosaic Idealize.ShloMosaic.TcCoe

variable (U : FVec Ideal S1024x1792 .f32) (M : FVec Ideal S1024x2048x64 .f32) (E : FVec Ideal S1024x2048 .f32)
  (Wq : FVec Ideal S1792x128 .f32) (Wk : FVec Ideal S64x128 .f32) (Wv : FVec Ideal S64x64 .f32)

/-- The reference's scores. -/
def scores : FVec Ideal S1024x8x2048 .f32 :=
  subf (Host.divf (Host.dotGeneral dot_S1024x8x2048x16_S1024x8x16_S1024x8x2048_3_2_2_n_01_01 none (transpose S1024x8x2048x16 [0, 2, 1, 3] (shapeCast _ (Host.dotGeneral dot_S1024x2048x64_S64x128_S1024x2048x128_2_0_01_1_n_n none M Wk) shapeCasts_S1024x2048x128_S1024x2048x8x16) transposes_S1024x2048x8x16_S1024x8x2048x16_0_2_1_3) (shapeCast _ (Host.dotGeneral dot_S1024x1792_S1792x128_S1024x128_1_0_0_1_n_n none U Wq) shapeCasts_S1024x128_S1024x8x16)) (broadcastInDim S1024x8x2048 ![] bcast_S_S1024x8x2048 (constant S_ .f32 0x40800000#32))) (broadcastInDim S1024x8x2048 ![0, 1, 2] bcast_S1024x1x2048_S1024x8x2048_0_1_2 (mulf (broadcastInDim S1024x1x2048 ![] bcast_S_S1024x1x2048 (constant S_ .f32 0x3C23D70A#32)) (broadcastInDim S1024x1x2048 ![0, 2] bcast_S1024x2048_S1024x1x2048_0_2 E)))

/-- The reference's eight best scores and their slots. -/
def best (s : FVec Ideal S1024x8x2048 .f32) : (S1024x8x8.Idx → Ideal .f32) × IVec S1024x8x8 32 :=
  Host.topK S1024x8x8 2 (FloatOps.cmpfTotal .gt) s sliceFits_S1024x8x2048_S1024x8x8

/-- The reference's exponentials of the best scores less the greatest. -/
def exps (ts : FVec Ideal S1024x8x8 .f32) : FVec Ideal S1024x8x8 .f32 :=
  Host.exp (subf ts (broadcastInDim S1024x8x8 ![0, 1, 2] bcast_S1024x8x1_S1024x8x8_0_1_2 (broadcastInDim S1024x8x1 ![0, 1] bcast_S1024x8_S1024x8x1_0_1 (maximumf (broadcastInDim S1024x8 ![] bcast_S_S1024x8 (constant S_ .f32 0xFF800000#32)) (Host.reduce FloatOps.maximumf ts (constant S_ .f32 0xFF800000#32) reducesTo_S1024x8x8_S1024x8_d2 h_S_)))))

/-- The reference's softmax weights. -/
def weights (ts : FVec Ideal S1024x8x8 .f32) : FVec Ideal S1024x8x8 .f32 :=
  Host.divf (exps ts) (broadcastInDim S1024x8x8 ![0, 1, 2] bcast_S1024x8x1_S1024x8x8_0_1_2 (broadcastInDim S1024x8x1 ![0, 1] bcast_S1024x8_S1024x8x1_0_1 (Host.reduceAdd (exps ts) (constant S_ .f32 0x00000000#32) reducesTo_S1024x8x8_S1024x8_d2 h_S_)))

/-- The slots as the reference's selection of values reads them: one more axis, and negative ones wrapped. -/
def wrapped (ix : IVec S1024x8x8 32) : IVec S1024x8x8x1 32 :=
  select (cmpi .slt (broadcastInDim S1024x8x8x1 ![0, 1, 2] bcast_S1024x8x8_S1024x8x8x1_0_1_2 ix) (broadcastInDim S1024x8x8x1 ![] bcast_S_S1024x8x8x1 (constantI S_ 32 0#32))) (addi (broadcastInDim S1024x8x8x1 ![0, 1, 2] bcast_S1024x8x8_S1024x8x8x1_0_1_2 ix) (broadcastInDim S1024x8x8x1 ![] bcast_S_S1024x8x8x1 (constantI S_ 32 2048#32))) (broadcastInDim S1024x8x8x1 ![0, 1, 2] bcast_S1024x8x8_S1024x8x8x1_0_1_2 ix)

/-- Whether a slot is in range, as the reference tests it. -/
def inRange (ix : IVec S1024x8x8 32) : IVec S1024x8x8 1 :=
  Host.reduce IntOp.andi (andi (cmpi .sge (wrapped ix) (broadcastInDim S1024x8x8x1 ![] bcast_S_S1024x8x8x1 (constantI S_ 32 0#32))) (cmpi .sle (wrapped ix) (broadcastInDim S1024x8x8x1 ![0, 1, 2, 3] bcast_S1x1x1x1_S1024x8x8x1_0_1_2_3 (broadcastInDim S1x1x1x1 ![3] bcast_S1_S1x1x1x1_3 (constantI S1 32 2047#32))))) (constantI S_ 1 1#1) reducesTo_S1024x8x8x1_S1024x8x8_d3 h_S_

/-- The reference's values by head. -/
def values : FVec Ideal S1024x8x2048x8 .f32 :=
  transpose S1024x8x2048x8 [0, 2, 1, 3] (shapeCast _ (Host.dotGeneral dot_S1024x2048x64_S64x64_S1024x2048x64_2_0_01_1_n_n none M Wv) shapeCasts_S1024x2048x64_S1024x2048x8x8) transposes_S1024x2048x8x8_S1024x8x2048x8_0_2_1_3

/-- The reference's selected values. -/
def selected (ix : IVec S1024x8x8 32) : FVec Ideal S1024x8x8x8 .f32 :=
  select (broadcastInDim S1024x8x8x8 ![0, 1, 2] bcast_S1024x8x8_S1024x8x8x8_0_1_2 (inRange ix)) (Host.gather gather_S1024x8x2048x8_S1024x8x8x1_S1024x8x8x8_3_2_01_01_2_3_1118 (values M Wv) (wrapped ix)) (broadcastInDim S1024x8x8x8 ![] bcast_S_S1024x8x8x8 (constant S_ .f32 0x7FC00000#32))

/-- The reference's weighted values. -/
def result (s : FVec Ideal S1024x8x2048 .f32) : FVec Ideal S1024x64 .f32 :=
  shapeCast _ (Host.dotGeneral dot_S1024x8x8_S1024x8x8x8_S1024x8x8_2_2_n_3_01_01 none (weights (best s).1) (selected M Wv (best s).2)) shapeCasts_S1024x8x8_S1024x64

section Named

open Cert.ReferenceIdeal.Value

variable (m : (ℓ : Loc nD τ sig) → Buf (Elt Ideal) ℓ) (c : Dev nD)

/-- The scores of a memory's arguments. -/
def scoresOf : FVec Ideal S1024x8x2048 .f32 :=
  scores (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The reference's second result is the weights of the best scores; -/
theorem res_weights : res_main_v23 m c = weights (best (scoresOf m c)).1 := rfl

/-- its first is the weighted values. -/
theorem res_result : res_main_v30 m c
    = result (m ((c.tc : Thread nD τ).loc main_arg1)) (m ((c.tc : Thread nD τ).loc main_arg5)) (scoresOf m c) := rfl

end Named

/-! ## At an index -/

/-- The query of row `b`. -/
abbrev qOf (b : Fin 1024) : Fin 128 → EReal := query (fun i => U (ix2 b i)) (fun i c => Wq (ix2 i c))
/-- The keys of row `b`. -/
abbrev kOf (b : Fin 1024) : Fin 2048 → Fin 128 → EReal := key (fun j d => M (ix3 b j d)) (fun i c => Wk (ix2 i c))
/-- The scores of row `b` and head `h`. -/
abbrev sOf (b : Fin 1024) (h : Fin 8) : Fin 2048 → EReal :=
  score (qOf U Wq b) (kOf M Wk b) (fun j => E (ix2 b j)) h

/-- The reference's scores are the router's. -/
theorem scores_at (b : Fin 1024) (h : Fin 8) (j : Fin 2048) :
    scores U M E Wq Wk (ix3 b h j) = sOf U M E Wq Wk b h j := by
  unfold sOf score qOf kOf query key headCol penalty
  pointwise [scores]

/-- The reference's best scores and slots are the row's sorted ones. -/
theorem best_at (s : FVec Ideal S1024x8x2048 .f32) (b : Fin 1024) (h : Fin 8) (k : Fin 8) :
    (best s).1 (ix3 b h k) = top (rowOf s b h) k ∧ (best s).2 (ix3 b h k) = BitVec.ofNat 32 (slot (rowOf s b h) k).val :=
  topK_at (by decide) s sliceFits_S1024x8x2048_S1024x8x8 b h k

/-- The word for minus infinity. -/
theorem negInf : Ideal.ofBits .f32 0xFF800000#32 = ⊥ := by simp [Ideal.ofBits, Ideal.ieee]

/-- The greatest of the eight best scores is the first. -/
theorem max_top (s : Fin 2048 → EReal) (hs : ∀ j, s j ≠ ⊥) : Finset.univ.fold max ⊥ (top s) = top s 0 := by
  refine le_antisymm ?_ ?_
  · exact (Finset.fold_max_le _).mpr ⟨bot_le, fun k _ => le_pick_zero s hs _ rfl _⟩
  · exact (Finset.le_fold_max _).mpr (Or.inr ⟨0, Finset.mem_univ _, le_rfl⟩)

/-- The reference's softmax weights of a row's best scores. -/
theorem weights_at (ts : FVec Ideal S1024x8x8 .f32) (s : Fin 2048 → EReal) (hs : ∀ j, s j ≠ ⊥) (b : Fin 1024) (h : Fin 8)
    (ht : ∀ k, ts (ix3 b h k) = top s k) (k : Fin 8) : weights ts (ix3 b h k) = alpha s k := by
  have e : (fun x => ts (ix3 b h x)) = top s := funext ht
  unfold alpha weight
  pointwise [weights, exps]
  rw [negInf, e, max_top s hs, max_eq_right bot_le, ht]
  simp only [ht]

/-- A slot number as a word, read signed. -/
theorem slot_toInt (p : Fin 2048) : (BitVec.ofNat 32 p.val).toInt = (p.val : ℤ) := by
  have hp := p.isLt
  have e : (BitVec.ofNat 32 p.val).toNat = p.val := by
    rw [BitVec.toNat_ofNat]; exact Nat.mod_eq_of_lt (by omega)
  rw [BitVec.toInt_eq_toNat_cond, e, if_pos (by omega)]

/-- The reference's gather at an index whose slot is in range. -/
theorem gather_at {α : Type} (x : S1024x8x2048x8.Idx → α) (idx : IVec S1024x8x8x1 32) (b : Fin 1024) (h k e : Fin 8)
    (p : Fin 2048) (hp : idx (ix4 b h k 0) = BitVec.ofNat 32 p.val) :
    Host.gather gather_S1024x8x2048x8_S1024x8x8x1_S1024x8x8x8_3_2_01_01_2_3_1118 x idx (ix4 b h k e) = x (ix4 b h p e) := by
  unfold Host.gather
  refine congrArg x (funext fun a => Fin.ext ?_)
  have hsi : ∀ y, (gather_S1024x8x2048x8_S1024x8x8x1_S1024x8x8x8_3_2_01_01_2_3_1118).siIdx (ix4 b h k e) y = ix4 b h k 0 := by
    intro y
    have hy : y.val < 1 := y.isLt
    funext b'; refine Fin.ext ?_
    match b' with
    | ⟨0, _⟩ => rfl
    | ⟨1, _⟩ => rfl
    | ⟨2, _⟩ => rfl
    | ⟨3, _⟩ => exact Nat.lt_one_iff.mp hy
  have hpt : (BitVec.ofNat 32 p.val).toInt.toNat = p.val := by rw [slot_toInt]; rfl
  match a with
  | ⟨0, _⟩ => exact Nat.zero_add _
  | ⟨1, _⟩ => exact Nat.zero_add _
  | ⟨2, _⟩ =>
    show min (idx ((gather_S1024x8x2048x8_S1024x8x8x1_S1024x8x8x8_3_2_01_01_2_3_1118).siIdx (ix4 b h k e) _)).toInt.toNat 2047 + 0 + 0 = p.val
    rw [hsi, hp, hpt]; have := p.isLt; omega
  | ⟨3, _⟩ => exact Nat.zero_add _

/-- A slot number as a word is in range, so that the reference neither wraps it nor fills its values. -/
theorem slotWord (p : Fin 2048) :
    IntOp.cmpi .slt (BitVec.ofNat 32 p.val) 0#32 = 0#1 ∧ IntOp.cmpi .sge (BitVec.ofNat 32 p.val) 0#32 = 1#1
      ∧ IntOp.cmpi .sle (BitVec.ofNat 32 p.val) 2047#32 = 1#1 := by
  have hp := p.isLt
  have e := slot_toInt p
  simp only [IntOp.cmpi, BitVec.slt, BitVec.sle, e]
  refine ⟨?_, ?_, ?_⟩
  · rw [decide_eq_false (by simp)]; rfl
  · rw [decide_eq_true (by simp)]; rfl
  · rw [decide_eq_true (by show (p.val : ℤ) ≤ 2047; omega)]; rfl

/-- No slot is negative, so none is wrapped; -/
theorem wrapped_at (ix : IVec S1024x8x8 32) (b : Fin 1024) (h k : Fin 8) (p : Fin 2048)
    (hp : ix (ix3 b h k) = BitVec.ofNat 32 p.val) : wrapped ix (ix4 b h k 0) = BitVec.ofNat 32 p.val := by
  pointwise [wrapped]
  rw [hp, (slotWord p).1]; rfl

/-- every slot is in range. -/
theorem inRange_at (ix : IVec S1024x8x8 32) (b : Fin 1024) (h k : Fin 8) (p : Fin 2048)
    (hp : ix (ix3 b h k) = BitVec.ofNat 32 p.val) : inRange ix (ix3 b h k) = 1#1 := by
  pointwise [inRange]
  have e := wrapped_at ix b h k p hp
  have e1 : ∀ x : Fin 1, wrapped ix (ix4 b h k x) = BitVec.ofNat 32 p.val := fun x => by
    rw [Subsingleton.elim x 0]; exact e
  simp only [e1, (slotWord p).2.1, (slotWord p).2.2]
  rfl

/-- The selected value is that of the slot. -/
theorem selected_at (ix : IVec S1024x8x8 32) (b : Fin 1024) (h k e : Fin 8) (p : Fin 2048)
    (hp : ix (ix3 b h k) = BitVec.ofNat 32 p.val) :
    selected M Wv ix (ix4 b h k e)
      = value (fun j d => M (ix3 b j d)) (fun d c => Wv (ix2 d c)) p ⟨h.val * 8 + e.val, by omega⟩ := by
  have hg := gather_at (values M Wv) (wrapped ix) b h k e p (wrapped_at ix b h k p hp)
  have hv : values M Wv (ix4 b h p e)
      = value (fun j d => M (ix3 b j d)) (fun d c => Wv (ix2 d c)) p ⟨h.val * 8 + e.val, by omega⟩ := by
    unfold value
    pointwise [values]
  have hr := inRange_at ix b h k p hp
  rw [← hv, ← hg]
  pointwise [selected]
  rw [hr]; rfl

/-- A read vector's entry is a sum over the eight best slots. -/
theorem result_sum (s : FVec Ideal S1024x8x2048 .f32) (b : Fin 1024) (c : Fin 64) :
    result M Wv s (ix2 b c) = ∑ k : Fin 8, weights (best s).1 (ix3 b (headOf c) k)
      * selected M Wv (best s).2 (ix4 b (headOf c) k ⟨c.val % 8, by omega⟩) := by
  pointwise [result]
  rfl

/-- The reference's first result: the weighted values. -/
theorem result_at (s : FVec Ideal S1024x8x2048 .f32) (b : Fin 1024) (c : Fin 64) (hs : ∀ j, rowOf s b (headOf c) j ≠ ⊥) :
    result M Wv s (ix2 b c)
      = output (rowOf s b (headOf c)) (fun j d => M (ix3 b j d)) (fun d c => Wv (ix2 d c)) c := by
  rw [result_sum]
  unfold output
  refine Finset.sum_congr rfl fun k _ => ?_
  rw [weights_at (best s).1 _ hs b (headOf c) (fun k => (best_at s b (headOf c) k).1) k,
    selected_at M Wv (best s).2 b (headOf c) k ⟨c.val % 8, by omega⟩ _ (best_at s b (headOf c) k).2]
  have hc : (⟨(headOf c).val * 8 + (⟨c.val % 8, by omega⟩ : Fin 8).val, by
      have := (headOf c).isLt; show (headOf c).val * 8 + c.val % 8 < 64; omega⟩ : Fin 64) = c := by
    refine Fin.ext ?_; show c.val / 8 * 8 + c.val % 8 = c.val; omega
  rw [hc]

end Cert.Router.Ref
-- ==== Proof.Finite.lean ====
/-
  The precondition read: every entry of every argument is a real number. Then so is every score.
-/
module

public import proofs.«01_k».proof.Pre_finite
public import proofs.«01_k».proof.Proof.KernelCombine
public import Idealize.ShloMosaic.Lib.ReduceAll

@[expose] public section

set_option maxRecDepth 16384

noncomputable section

namespace Cert.Router

open Idealize.ShloMosaic

/-- The predicate's side conditions. -/
theorem finite_facts : Cert.Pre_finite.Facts where
  bcast_S_S1024x1792 := by decide
  reducesTo_S1024x1792_S_d0_1 := by decide
  h_S_ := by decide
  bcast_S_S1024x2048x64 := by decide
  reducesTo_S1024x2048x64_S_d0_1_2 := by decide
  bcast_S_S1024x2048 := by decide
  reducesTo_S1024x2048_S_d0_1 := by decide
  bcast_S_S1792x128 := by decide
  reducesTo_S1792x128_S_d0_1 := by decide
  bcast_S_S64x128 := by decide
  reducesTo_S64x128_S_d0_1 := by decide
  bcast_S_S64x64 := by decide
  reducesTo_S64x64_S_d0_1 := by decide

/-- The word for plus infinity. -/
theorem posInf : Ideal.ofBits .f32 0x7F800000#32 = ⊤ := by simp [Ideal.ofBits, Ideal.ieee]

/-- A number whose absolute value is below plus infinity is real. -/
theorem real_of_abs_lt {x : EReal} (h : Ideal.cmp .olt (max x (-x)) (Ideal.ofBits .f32 0x7F800000#32) = 1#1) : x ≠ ⊤ ∧ x ≠ ⊥ := by
  rw [posInf] at h
  have h' : max x (-x) < ⊤ := by
    by_contra hn
    rw [show Ideal.cmp .olt (max x (-x)) ⊤ = BitVec.ofBool (decide (max x (-x) < ⊤)) from rfl, decide_eq_false hn] at h
    exact absurd h (by decide)
  constructor
  · rintro rfl; simp at h'
  · rintro rfl; simp at h'

/-- An array all of whose entries pass the predicate's test holds reals. -/
theorem real_of_all {s u : Shape} {axes : List (Fin s.rank)} (x : FVec Ideal s .f32) (h : s.ReducesTo axes Cert.Pre_finite.S_)
    (hu : 0 < u.numel) (hb : Cert.Pre_finite.S_.BroadcastsInDim s (![] : Fin 0 → Fin s.rank)) (init : u.Idx → BitVec 1) (j : Cert.Pre_finite.S_.Idx)
    (e : Host.reduce IntOp.andi (cmpf .olt (Host.absf x)
      (broadcastInDim s ![] hb (constant (F := Ideal) Cert.Pre_finite.S_ .f32 0x7F800000#32))) init h hu j = 1#1) :
    ∃ r : s.Idx → ℝ, ∀ i, x i = (r i : EReal) := by
  haveI : Subsingleton Cert.Pre_finite.S_.Idx := ⟨fun a b => funext fun d => d.elim0⟩
  refine ⟨fun i => (x i).toReal, fun i => ?_⟩
  have h1 := real_of_abs_lt (x := x i) (Host.reduce_andi_all _ _ h hu j e i)
  exact (EReal.coe_toReal h1.1 h1.2).symm

/-- The six arguments are arrays of reals. -/
structure Reals (U : FVec Ideal Cert.Pre_finite.S1024x1792 .f32) (M : FVec Ideal Cert.Pre_finite.S1024x2048x64 .f32)
    (E : FVec Ideal Cert.Pre_finite.S1024x2048 .f32) (Wq : FVec Ideal Cert.Pre_finite.S1792x128 .f32)
    (Wk : FVec Ideal Cert.Pre_finite.S64x128 .f32) (Wv : FVec Ideal Cert.Pre_finite.S64x64 .f32) : Prop where
  u : ∃ r : Cert.Pre_finite.S1024x1792.Idx → ℝ, ∀ i, U i = (r i : EReal)
  mem : ∃ r : Cert.Pre_finite.S1024x2048x64.Idx → ℝ, ∀ i, M i = (r i : EReal)
  ema : ∃ r : Cert.Pre_finite.S1024x2048.Idx → ℝ, ∀ i, E i = (r i : EReal)
  wq : ∃ r : Cert.Pre_finite.S1792x128.Idx → ℝ, ∀ i, Wq i = (r i : EReal)
  wk : ∃ r : Cert.Pre_finite.S64x128.Idx → ℝ, ∀ i, Wk i = (r i : EReal)
  wv : ∃ r : Cert.Pre_finite.S64x64.Idx → ℝ, ∀ i, Wv i = (r i : EReal)

attribute [local instance] finite_facts in
/-- Arguments that satisfy the predicate are arrays of reals. -/
theorem reals_of_finite (U : FVec Ideal Cert.Pre_finite.S1024x1792 .f32) (M : FVec Ideal Cert.Pre_finite.S1024x2048x64 .f32)
    (E : FVec Ideal Cert.Pre_finite.S1024x2048 .f32) (Wq : FVec Ideal Cert.Pre_finite.S1792x128 .f32)
    (Wk : FVec Ideal Cert.Pre_finite.S64x128 .f32) (Wv : FVec Ideal Cert.Pre_finite.S64x64 .f32) (j : Cert.Pre_finite.S_.Idx)
    (h : Cert.Pre_finite.fn (F := Ideal) U M E Wq Wk Wv j = 1#1) : Reals U M E Wq Wk Wv := by
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨real_of_all _ _ _ _ _ _ h0, real_of_all _ _ _ _ _ _ h1, real_of_all _ _ _ _ _ _ h2, real_of_all _ _ _ _ _ _ h3,
    real_of_all _ _ _ _ _ _ h4, real_of_all _ _ _ _ _ _ h5⟩

/-- The penalty's factor is real. -/
theorem penalty_real : ∃ r : ℝ, penalty = (r : EReal) := by
  have e : penalty = ((10737418 * (2 ^ 30)⁻¹ : ℝ) : EReal) := by
    unfold penalty
    simp [Ideal.ofBits, Ideal.ieee, -EReal.coe_mul]
  exact ⟨_, e⟩

/-- A sum of products of reals is real. -/
theorem dot_real {n : ℕ} (x y : Fin n → EReal) (a b : Fin n → ℝ) (hx : ∀ i, x i = (a i : EReal)) (hy : ∀ i, y i = (b i : EReal)) :
    ∑ i, x i * y i = ((∑ i, a i * b i : ℝ) : EReal) := by
  rw [coe_sum]
  exact Finset.sum_congr rfl fun i _ => by rw [hx, hy, EReal.coe_mul]

/-- The word for four, the root of a head's width. -/
theorem four : Ideal.ofBits .f32 0x40800000#32 = ((4 : ℝ) : EReal) := by
  simp [Ideal.ofBits, Ideal.ieee, -EReal.coe_mul]; norm_num

/-- From real queries, keys and loads every score is real. -/
theorem score_real (q : Fin 128 → EReal) (K : Fin 2048 → Fin 128 → EReal) (E : Fin 2048 → EReal)
    (q' : Fin 128 → ℝ) (hq : ∀ c, q c = (q' c : EReal)) (K' : Fin 2048 → Fin 128 → ℝ) (hK : ∀ j c, K j c = (K' j c : EReal))
    (E' : Fin 2048 → ℝ) (hE : ∀ j, E j = (E' j : EReal)) : ∃ g : Fin 8 → Fin 2048 → ℝ, ∀ h j, score q K E h j = (g h j : EReal) := by
  obtain ⟨p, hp⟩ := penalty_real
  refine ⟨fun h j => (∑ e : Fin 16, K' j (headCol h e) * q' (headCol h e)) * (1 / 4) - p * E' j, fun h j => ?_⟩
  unfold score
  rw [dot_real _ _ _ _ (fun e => hK j (headCol h e)) (fun e => hq (headCol h e)), hp, hE,
    four, Ideal.div_coe (by norm_num)]
  rw [← EReal.coe_mul, ← EReal.coe_mul, ← EReal.coe_sub]

end Cert.Router

end
-- ==== Proof.KernelArrays.lean ====
/-
  The kernel's three result arrays over the extended reals, for real arguments: entry by entry the results of the
  specification. Point `t` of the grid works on batch rows 16t .. 16t+15.
-/
module

public import proofs.«01_k».proof.Proof.KernelIdealRun
public import proofs.«01_k».proof.Proof.KernelBlock
public import proofs.«01_k».proof.Proof.RefValue
public import proofs.«01_k».proof.Proof.Finite
public import Idealize.ShloMosaic.Lib.VecWindow

@[expose] public section

set_option maxRecDepth 16384

noncomputable section

namespace Cert.Router.Kernel

open Cert.KernelIdeal Cert.KernelIdeal.Gen Cert.KernelIdeal.Body Idealize.ShloMosaic Idealize.ShloMosaic.TcCoe
open Cert.Router.Ref (sOf)

variable (m : (ℓ : Loc nD τ sig) → Buf (Elt Ideal) ℓ) (c : Dev nD)

/-! ## The arguments -/

/-- The kernel's arguments: inputs, -/
abbrev argU : FVec Ideal S1024x1792 .f32 := m ((c : Thread nD τ).loc main_arg0)
/-- memories, -/
abbrev argM : FVec Ideal S1024x2048x64 .f32 := m ((c : Thread nD τ).loc main_arg1)
/-- usage averages, -/
abbrev argE : FVec Ideal S1024x2048 .f32 := m ((c : Thread nD τ).loc main_arg2)
/-- query weights, -/
abbrev argQ : FVec Ideal S1792x128 .f32 := m ((c : Thread nD τ).loc main_arg3)
/-- key weights, -/
abbrev argK : FVec Ideal S64x128 .f32 := m ((c : Thread nD τ).loc main_arg4)
/-- value weights. -/
abbrev argV : FVec Ideal S64x64 .f32 := m ((c : Thread nD τ).loc main_arg5)

/-- Batch row `r` of point `t`. -/
def row (t : Fin cfg0.N) (r : Fin 16) : Fin 1024 := ⟨t.val * 16 + r.val, by have : t.val < 64 := t.isLt; omega⟩

/-- The grid coordinate as a word, read back. -/
theorem coord_word (t : Fin cfg0.N) : (BitVec.ofNat 32 (grid0.coords t 0).val).toNat = t.val := by
  rw [coords_val, BitVec.toNat_ofNat]
  have : t.val < 64 := t.isLt
  exact Nat.mod_eq_of_lt (by omega)

/-! ## What a point reads -/

/-- Point `t`'s block of inputs is its sixteen rows; -/
theorem block_u (t : Fin cfg0.N) (r : Fin 16) (i : Fin 1792) : iblk m c 0 t (ix2 r i) = argU m c (ix2 (row t r) i) := by
  refine congrArg (argU m c) (funext fun a => Fin.ext ?_)
  refine (Pipeline.Window.rect_emb_val win0_0 t (ix2 r i) a).trans ?_
  fin_cases a
  · show (BitVec.ofNat 32 (grid0.coords t 0).val).toNat * 16 + r.val = t.val * 16 + r.val
    rw [coord_word]
  · show 0 * 1792 + i.val = i.val; omega

/-- so is its block of usage averages; -/
theorem block_e (t : Fin cfg0.N) (r : Fin 16) (j : Fin 2048) : iblk m c 1 t (ix2 r j) = argE m c (ix2 (row t r) j) := by
  refine congrArg (argE m c) (funext fun a => Fin.ext ?_)
  refine (Pipeline.Window.rect_emb_val win0_1 t (ix2 r j) a).trans ?_
  fin_cases a
  · show (BitVec.ofNat 32 (grid0.coords t 0).val).toNat * 16 + r.val = t.val * 16 + r.val
    rw [coord_word]
  · show 0 * 2048 + j.val = j.val; omega

/-- the query weights come whole, -/
theorem block_q (t : Fin cfg0.N) (i : Fin 1792) (e : Fin 128) : iblk m c 2 t (ix2 i e) = argQ m c (ix2 i e) := by
  refine congrArg (argQ m c) (funext fun a => Fin.ext ?_)
  refine (Pipeline.Window.rect_emb_val win0_2 t (ix2 i e) a).trans ?_
  fin_cases a
  · show 0 * 1792 + i.val = i.val; omega
  · show 0 * 128 + e.val = e.val; omega

/-- the key weights come whole, -/
theorem block_k (t : Fin cfg0.N) (i : Fin 64) (e : Fin 128) : iblk m c 3 t (ix2 i e) = argK m c (ix2 i e) := by
  refine congrArg (argK m c) (funext fun a => Fin.ext ?_)
  refine (Pipeline.Window.rect_emb_val win0_3 t (ix2 i e) a).trans ?_
  fin_cases a
  · show 0 * 64 + i.val = i.val; omega
  · show 0 * 128 + e.val = e.val; omega

/-- the value weights come whole. -/
theorem block_v (t : Fin cfg0.N) (i : Fin 64) (e : Fin 64) : iblk m c 4 t (ix2 i e) = argV m c (ix2 i e) := by
  refine congrArg (argV m c) (funext fun a => Fin.ext ?_)
  refine (Pipeline.Window.rect_emb_val win0_4 t (ix2 i e) a).trans ?_
  fin_cases a
  · show 0 * 64 + i.val = i.val; omega
  · show 0 * 64 + e.val = e.val; omega

/-- The memories that reach point `t` are those of its batch rows. -/
theorem block_m (t : Fin cfg0.N) (r : Fin 16) (j : Fin 2048) (d : Fin 64) :
    payload c (memA m c) (Ring.bk 64 (grid0.coords t 0).val) (ix3 r j d) = argM m c (ix3 (row t r) j d) := by
  refine congrArg (argM m c) (funext fun a => Fin.ext ?_)
  have ht : t.val < 64 := t.isLt
  fin_cases a
  · show 16 * (Ring.bk 64 (grid0.coords t 0).val).val + 1 * r.val = t.val * 16 + r.val
    rw [coords_val, Ring.bk_val ht]; omega
  · show 0 + 1 * j.val = j.val; omega
  · show 0 + 1 * d.val = d.val; omega

/-- The same for all slots and coordinates of a row at once. -/
theorem block_m' (t : Fin cfg0.N) (r : Fin 16) :
    (fun j d => payload c (memA m c) (Ring.bk 64 (grid0.coords t 0).val) (ix3 r j d)) = fun j d => argM m c (ix3 (row t r) j d) :=
  funext fun j => funext fun d => block_m m c t r j d

/-- A point's scores are its batch rows' scores. -/
theorem point_scores (t : Fin cfg0.N) (r : Fin 16) (h : Fin 8) :
    rowScores c (memA m c) (grid0.coords t) (iblk m c 0 t) (iblk m c 1 t) (iblk m c 2 t) (iblk m c 3 t) r h
      = sOf (argU m c) (argM m c) (argE m c) (argQ m c) (argK m c) (row t r) h := by
  unfold rowScores
  rw [block_m']
  simp only [block_u, block_e, block_q, block_k]

/-! ## The arrays -/

/-- The first result. -/
def arrR : FVec Ideal S1024x64 .f32 := fun y =>
  output (sOf (argU m c) (argM m c) (argE m c) (argQ m c) (argK m c) (y 0) (headOf (y 1)))
    (fun j d => argM m c (ix3 (y 0) j d)) (fun d e => argV m c (ix2 d e)) (y 1)

/-- The batch row of row `ρ` of the flattened weights and indices, and its head. -/
def rowB (ρ : Fin 8192) : Fin 1024 := ⟨ρ.val / 8, by omega⟩
/-- The head of a row of the flattened arrays. -/
def rowH (ρ : Fin 8192) : Fin 8 := ⟨ρ.val % 8, by omega⟩

/-- The weights, flattened. -/
def arrA : FVec Ideal S8192x8 .f32 := fun y =>
  alpha (sOf (argU m c) (argM m c) (argE m c) (argQ m c) (argK m c) (rowB (y 0)) (rowH (y 0))) (y 1)

/-- The indices, flattened. -/
def arrI : IVec S8192x8 32 := fun y =>
  BitVec.ofNat 32 (slot (sOf (argU m c) (argM m c) (argE m c) (argQ m c) (argK m c) (rowB (y 0)) (rowH (y 0))) (y 1)).val

/-! ## What a point leaves -/

/-- Every score of real arguments is real. -/
theorem scores_real (hr : Reals (argU m c) (argM m c) (argE m c) (argQ m c) (argK m c) (argV m c)) (b : Fin 1024) :
    ∃ g : Fin 8 → Fin 2048 → ℝ, ∀ h j, sOf (argU m c) (argM m c) (argE m c) (argQ m c) (argK m c) b h j = (g h j : EReal) := by
  obtain ⟨u, hu⟩ := hr.u
  obtain ⟨mm, hm⟩ := hr.mem
  obtain ⟨e, he⟩ := hr.ema
  obtain ⟨q, hq⟩ := hr.wq
  obtain ⟨k, hk⟩ := hr.wk
  exact score_real _ _ _ _ (fun _ => dot_real _ _ _ _ (fun _ => hu _) (fun _ => hq _)) _
    (fun _ _ => dot_real _ _ _ _ (fun _ => hm _) (fun _ => hk _)) _ (fun _ => he _)

/-- With real arguments, what a point writes of the read vectors is the router's output on its rows; -/
theorem point_r (hr : Reals (argU m c) (argM m c) (argE m c) (argQ m c) (argK m c) (argV m c)) (t : Fin cfg0.N) (r : Fin 16) (e : Fin 64) :
    rAt m c t (ix2 r e) = arrR m c (ix2 (row t r) e) := by
  obtain ⟨mm, hm⟩ := hr.mem
  obtain ⟨v, hv⟩ := hr.wv
  choose g hg using scores_real m c hr
  unfold rAt
  rw [View.read_writes_full, outR_at c (memA m c) (grid0.coords t) _ _ _ _ _ _ _ _ _ _ (fun r h j => g (row t r) h j)
    (fun r h j => by rw [point_scores, hg]) (fun r j d => mm (ix3 (row t r) j d)) (fun r j d => by rw [block_m]; exact hm _)
    (fun d e => v (ix2 d e)) (fun d e => by rw [block_v]; exact hv _)]
  rw [point_scores, block_m']
  simp only [block_v]
  rfl

/-- what it writes of the weights is the router's softmax; -/
theorem point_a (hr : Reals (argU m c) (argM m c) (argE m c) (argQ m c) (argK m c) (argV m c)) (t : Fin cfg0.N) (r : Fin 16) (h k : Fin 8) :
    aAt m c t (ix2 ⟨8 * r.val + h.val, by omega⟩ k) = alpha (sOf (argU m c) (argM m c) (argE m c) (argQ m c) (argK m c) (row t r) h) k := by
  choose g hg using scores_real m c hr
  unfold aAt
  rw [View.read_writes_full, outA_at c (memA m c) (grid0.coords t) _ _ _ _ _ _ _ _
    (fun r h j => by rw [point_scores, hg]; exact EReal.coe_ne_bot _), point_scores]

/-- what it writes of the indices is the router's slots. -/
theorem point_i (hr : Reals (argU m c) (argM m c) (argE m c) (argQ m c) (argK m c) (argV m c)) (t : Fin cfg0.N) (r : Fin 16) (h k : Fin 8) :
    iAt m c t (ix2 ⟨8 * r.val + h.val, by omega⟩ k)
      = BitVec.ofNat 32 (slot (sOf (argU m c) (argM m c) (argE m c) (argQ m c) (argK m c) (row t r) h) k).val := by
  choose g hg using scores_real m c hr
  unfold iAt
  rw [View.read_writes_full, outI_at c (memA m c) (grid0.coords t) _ _ _ _ _ _ _ _
    (fun r h j => by rw [point_scores, hg]; exact EReal.coe_ne_bot _), point_scores]

/-- Row `8r + h` of point `t`'s block of the flattened arrays stands for batch row `r` of the point and head `h`. -/
theorem rowB_row (t : Fin cfg0.N) (r : Fin 16) (h : Fin 8) (hb : t.val * 128 + (8 * r.val + h.val) < 8192) :
    rowB ⟨t.val * 128 + (8 * r.val + h.val), hb⟩ = row t r := Fin.ext (by show (t.val * 128 + (8 * r.val + h.val)) / 8 = t.val * 16 + r.val; omega)
/-- The head of a row inside a point's block. -/
theorem rowH_row (t : Fin cfg0.N) (r : Fin 16) (h : Fin 8) (hb : t.val * 128 + (8 * r.val + h.val) < 8192) :
    rowH ⟨t.val * 128 + (8 * r.val + h.val), hb⟩ = h := Fin.ext (by show (t.val * 128 + (8 * r.val + h.val)) % 8 = h.val; omega)
/-- Every one of the 128 rows is such a row. -/
theorem split_row (ρ : Fin 128) : ∃ (r : Fin 16) (h : Fin 8), ρ = ⟨8 * r.val + h.val, by omega⟩ :=
  ⟨⟨ρ.val / 8, by omega⟩, ⟨ρ.val % 8, by omega⟩, Fin.ext (by show ρ.val = 8 * (ρ.val / 8) + ρ.val % 8; omega)⟩

/-! ## The arrays after the run -/

/-- Where an entry of point `t`'s block of the first result sits. -/
theorem emb_r (t : Fin cfg0.N) (r : Fin 16) (e : Fin 64) : (win0_5.rect t).emb (ix2 r e) = ix2 (row t r) e := by
  refine funext fun a => Fin.ext ((Pipeline.Window.rect_emb_val win0_5 t (ix2 r e) a).trans ?_)
  fin_cases a
  · show (BitVec.ofNat 32 (grid0.coords t 0).val).toNat * 16 + r.val = t.val * 16 + r.val
    rw [coord_word]
  · show 0 * 64 + e.val = e.val; omega

/-- The same of the weights' and the indices'. -/
theorem emb_a (t : Fin cfg0.N) (ρ : Fin 128) (k : Fin 8) :
    (win0_6.rect t).emb (ix2 ρ k) = ix2 ⟨t.val * 128 + ρ.val, by have : t.val < 64 := t.isLt; omega⟩ k := by
  refine funext fun a => Fin.ext ((Pipeline.Window.rect_emb_val win0_6 t (ix2 ρ k) a).trans ?_)
  fin_cases a
  · show (BitVec.ofNat 32 (grid0.coords t 0).val).toNat * 128 + ρ.val = t.val * 128 + ρ.val
    rw [coord_word]
  · show 0 * 8 + k.val = k.val; omega
/-- Where a point's block of indices lies in the array. -/
theorem emb_i (t : Fin cfg0.N) (ρ : Fin 128) (k : Fin 8) :
    (win0_7.rect t).emb (ix2 ρ k) = ix2 ⟨t.val * 128 + ρ.val, by have : t.val < 64 := t.isLt; omega⟩ k := by
  refine funext fun a => Fin.ext ((Pipeline.Window.rect_emb_val win0_7 t (ix2 ρ k) a).trans ?_)
  fin_cases a
  · show (BitVec.ofNat 32 (grid0.coords t 0).val).toNat * 128 + ρ.val = t.val * 128 + ρ.val
    rw [coord_word]
  · show 0 * 8 + k.val = k.val; omega

variable {m c} in
/-- The first result's array. -/
theorem final_r (hr : Reals (argU m c) (argM m c) (argE m c) (argQ m c) (argK m c) (argV m c)) :
    (dats m 0 c).arrAt 5 cfg0.N = arrR m c := by
  refine (dats m 0 c).arrAt_eq_of_cover 5 (arrR m c) (fun t _ => ?_) fun y => ?_
  · show (dats m 0 c).after 5 t = fun x => arrR m c ((win0_5.rect t).emb x)
    rw [after_5]
    funext x
    obtain ⟨r, e, rfl⟩ : ∃ (r : Fin 16) (e : Fin 64), x = ix2 r e := ⟨x 0, x 1, eq_ix2 x⟩
    rw [emb_r]
    exact point_r m c hr t r e
  · have h0 : (y 0).val < 1024 := (y 0).isLt
    refine ⟨⟨(y 0).val / 16, by show (y 0).val / 16 < 64; omega⟩, flush0_5 _, ?_⟩
    refine (Finset.mem_map.mpr ⟨ix2 ⟨(y 0).val % 16, by omega⟩ (y 1), Finset.mem_univ _, ?_⟩ : y ∈ Finset.univ.map (win0_5.rect _).emb)
    refine (emb_r _ _ _).trans ?_
    conv_rhs => rw [eq_ix2 y]
    refine congrArg (fun b => ix2 b (y 1)) (Fin.ext ?_)
    show (y 0).val / 16 * 16 + (y 0).val % 16 = (y 0).val
    omega

variable {m c} in
/-- The weights' array. -/
theorem final_a (hr : Reals (argU m c) (argM m c) (argE m c) (argQ m c) (argK m c) (argV m c)) :
    (dats m 0 c).arrAt 6 cfg0.N = arrA m c := by
  refine (dats m 0 c).arrAt_eq_of_cover 6 (arrA m c) (fun t _ => ?_) fun y => ?_
  · show (dats m 0 c).after 6 t = fun x => arrA m c ((win0_6.rect t).emb x)
    rw [after_6]
    funext x
    obtain ⟨ρ, k, rfl⟩ : ∃ (ρ : Fin 128) (k : Fin 8), x = ix2 ρ k := ⟨x 0, x 1, eq_ix2 x⟩
    obtain ⟨r, h, rfl⟩ := split_row ρ
    rw [emb_a, point_a m c hr]
    unfold arrA
    simp only [ix2_0, ix2_1, rowB_row t r h, rowH_row t r h]
  · have h0 : (y 0).val < 8192 := (y 0).isLt
    refine ⟨⟨(y 0).val / 128, by show (y 0).val / 128 < 64; omega⟩, flush0_6 _, ?_⟩
    refine (Finset.mem_map.mpr ⟨ix2 ⟨(y 0).val % 128, by omega⟩ (y 1), Finset.mem_univ _, ?_⟩ : y ∈ Finset.univ.map (win0_6.rect _).emb)
    refine (emb_a _ _ _).trans ?_
    conv_rhs => rw [eq_ix2 y]
    refine congrArg (fun b => ix2 b (y 1)) (Fin.ext ?_)
    show (y 0).val / 128 * 128 + (y 0).val % 128 = (y 0).val
    omega

variable {m c} in
/-- The indices' array. -/
theorem final_i (hr : Reals (argU m c) (argM m c) (argE m c) (argQ m c) (argK m c) (argV m c)) :
    (dats m 0 c).arrAt 7 cfg0.N = arrI m c := by
  refine (dats m 0 c).arrAt_eq_of_cover 7 (arrI m c) (fun t _ => ?_) fun y => ?_
  · show (dats m 0 c).after 7 t = fun x => arrI m c ((win0_7.rect t).emb x)
    rw [after_7]
    funext x
    obtain ⟨ρ, k, rfl⟩ : ∃ (ρ : Fin 128) (k : Fin 8), x = ix2 ρ k := ⟨x 0, x 1, eq_ix2 x⟩
    obtain ⟨r, h, rfl⟩ := split_row ρ
    rw [emb_i, point_i m c hr]
    unfold arrI
    simp only [ix2_0, ix2_1, rowB_row t r h, rowH_row t r h]
  · have h0 : (y 0).val < 8192 := (y 0).isLt
    refine ⟨⟨(y 0).val / 128, by show (y 0).val / 128 < 64; omega⟩, flush0_7 _, ?_⟩
    refine (Finset.mem_map.mpr ⟨ix2 ⟨(y 0).val % 128, by omega⟩ (y 1), Finset.mem_univ _, ?_⟩ : y ∈ Finset.univ.map (win0_7.rect _).emb)
    refine (emb_i _ _ _).trans ?_
    conv_rhs => rw [eq_ix2 y]
    refine congrArg (fun b => ix2 b (y 1)) (Fin.ext ?_)
    show (y 0).val / 128 * 128 + (y 0).val % 128 = (y 0).val
    omega

end Cert.Router.Kernel

end
-- ==== Proof.Algebraic.lean ====
/-
  Over the extended reals the kernel and the reference give the same three results, for real arguments.
-/
module

public import proofs.«01_k».proof.Defs
public import proofs.«01_k».proof.Proof.KernelArrays
public import proofs.«01_k».proof.Proof.KernelFrame

@[expose] public section

set_option maxRecDepth 16384

noncomputable section

namespace Cert.Router.Kernel

open Cert.KernelIdeal Cert.KernelIdeal.Gen Cert.KernelIdeal.Body Idealize.ShloMosaic Idealize.ShloMosaic.TcCoe Idealize.SL.Sem
open Cert.Router.Ref (sOf scores)

variable (m : (ℓ : Loc nD τ sig) → Buf (Elt Ideal) ℓ) (c : Dev nD)

/-! ## The kernel's results -/

/-- The last two results are the flattened arrays, a head's rows apart. -/
theorem tail_a : Pipeline.afterTail₀ cfgs (dats m) 0 (V0 m) [hostOps1] c main_v0_1
    = shapeCast S1024x8x8 ((dats m 0 c).arrAt 6 cfg0.N) shapeCasts_S8192x8_S1024x8x8 := by
  rw [← Pipeline.withArrays_arr spec0 launch0.win.arr_inj c (V0 m c) (fun w => (dats m 0 c).arrAt w cfg0.N) 6]
  unfold Pipeline.afterTail₀
  simp only [hostOps1, List.flatten_cons, List.flatten_nil, List.append_nil, StableHlo.after_cons, StableHlo.after_nil]
  rfl
/-- After the launch the host's second reshape gives the indices' array, by row and head. -/
theorem tail_i : Pipeline.afterTail₀ cfgs (dats m) 0 (V0 m) [hostOps1] c main_v0_2
    = shapeCast S1024x8x8 ((dats m 0 c).arrAt 7 cfg0.N) shapeCasts_S8192x8_S1024x8x8 := by
  rw [← Pipeline.withArrays_arr spec0 launch0.win.arr_inj c (V0 m c) (fun w => (dats m 0 c).arrAt w cfg0.N) 7]
  unfold Pipeline.afterTail₀
  simp only [hostOps1, List.flatten_cons, List.flatten_nil, List.append_nil, StableHlo.after_cons, StableHlo.after_nil]
  rfl

/-- An entry of a flattened array, its heads apart. -/
theorem unflat_at {α : Type} (x : S8192x8.Idx → α) (b : Fin 1024) (h k : Fin 8) :
    shapeCast S1024x8x8 x shapeCasts_S8192x8_S1024x8x8 (ix3 b h k) = x (ix2 ⟨b.val * 8 + h.val, by omega⟩ k) := by
  pointwise []

/-- Row `8 b + h` of the flattened arrays belongs to batch row `b` -/
theorem rowB_at (b : Fin 1024) (h : Fin 8) (hb : b.val * 8 + h.val < 8192) : rowB ⟨b.val * 8 + h.val, hb⟩ = b :=
  Fin.ext (by show (b.val * 8 + h.val) / 8 = b.val; omega)
/-- and to head `h`. -/
theorem rowH_at (b : Fin 1024) (h : Fin 8) (hb : b.val * 8 + h.val < 8192) : rowH ⟨b.val * 8 + h.val, hb⟩ = h :=
  Fin.ext (by show (b.val * 8 + h.val) % 8 = h.val; omega)

/-- The kernel runs to its end with the three results of the specification, its arguments unchanged. -/
theorem run_value (ρ : Dev nD → PrngReg)
    (hr : ∀ c, Reals (argU m c) (argM m c) (argE m c) (argQ m c) (argK m c) (argV m c)) :
    θ_run (defs (F := Ideal)) (onTc (τ := τ) (main (F := Ideal))) ⟨m, fun _ => 0, ρ⟩ (fun r => ∀ c : Dev nD,
      r.2.mem ((c.tc : Thread nD τ).loc main_v0_0) = arrR m c
      ∧ r.2.mem ((c.tc : Thread nD τ).loc main_v0_1) = shapeCast S1024x8x8 (arrA m c) shapeCasts_S8192x8_S1024x8x8
      ∧ r.2.mem ((c.tc : Thread nD τ).loc main_v0_2) = shapeCast S1024x8x8 (arrI m c) shapeCasts_S8192x8_S1024x8x8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h.1 c).1 5).trans (final_r (hr c)),
      ((h.1 c).2 main_v0_1 (Pipeline.mem_restRefs_of main_v0_1 (by decide) (by decide))).trans
        ((tail_a m c).trans (congrArg (fun x => shapeCast S1024x8x8 x shapeCasts_S8192x8_S1024x8x8) (final_a (hr c)))),
      ((h.1 c).2 main_v0_2 (Pipeline.mem_restRefs_of main_v0_2 (by decide) (by decide))).trans
        ((tail_i m c).trans (congrArg (fun x => shapeCast S1024x8x8 x shapeCasts_S8192x8_S1024x8x8) (final_i (hr c)))),
      args_of_post m h.1 c⟩) (run_main m ρ)

/-! ## The reference's results -/

/-- The reference's row of scores. -/
theorem row_scores (U : FVec Ideal S1024x1792 .f32) (M : FVec Ideal S1024x2048x64 .f32) (E : FVec Ideal S1024x2048 .f32)
    (Wq : FVec Ideal S1792x128 .f32) (Wk : FVec Ideal S64x128 .f32) (b : Fin 1024) (h : Fin 8) :
    rowOf (scores U M E Wq Wk) b h = sOf U M E Wq Wk b h := funext fun j => Ref.scores_at U M E Wq Wk b h j

section Results

variable {m c} (hr : Reals (argU m c) (argM m c) (argE m c) (argQ m c) (argK m c) (argV m c))
include hr

/-- With real arguments no score is minus infinity. -/
theorem row_ne_bot (b : Fin 1024) (h : Fin 8) (j : Fin 2048) :
    rowOf (scores (argU m c) (argM m c) (argE m c) (argQ m c) (argK m c)) b h j ≠ ⊥ := by
  obtain ⟨g, hg⟩ := scores_real m c hr b
  rw [row_scores, hg]
  exact EReal.coe_ne_bot _

/-- The reference's first result is the kernel's, -/
theorem same_r : Ref.result (argM m c) (argV m c) (scores (argU m c) (argM m c) (argE m c) (argQ m c) (argK m c)) = arrR m c := by
  funext y
  obtain ⟨b, e, rfl⟩ : ∃ (b : Fin 1024) (e : Fin 64), y = ix2 b e := ⟨y 0, y 1, eq_ix2 y⟩
  rw [Ref.result_at _ _ _ b e (row_ne_bot hr b _), row_scores]
  rfl

/-- its second, -/
theorem same_a : Ref.weights (Ref.best (scores (argU m c) (argM m c) (argE m c) (argQ m c) (argK m c))).1
    = shapeCast S1024x8x8 (arrA m c) shapeCasts_S8192x8_S1024x8x8 := by
  funext y
  obtain ⟨b, h, k, rfl⟩ : ∃ (b : Fin 1024) (h k : Fin 8), y = ix3 b h k := ⟨y 0, y 1, y 2, eq_ix3 y⟩
  rw [Ref.weights_at _ _ (row_ne_bot hr b h) b h (fun k => (Ref.best_at _ b h k).1), unflat_at, row_scores]
  unfold arrA
  simp only [ix2_0, ix2_1, rowB_at, rowH_at]

omit hr in
/-- and its third. -/
theorem same_i : (Ref.best (scores (argU m c) (argM m c) (argE m c) (argQ m c) (argK m c))).2
    = shapeCast S1024x8x8 (arrI m c) shapeCasts_S8192x8_S1024x8x8 := by
  funext y
  obtain ⟨b, h, k, rfl⟩ : ∃ (b : Fin 1024) (h k : Fin 8), y = ix3 b h k := ⟨y 0, y 1, y 2, eq_ix3 y⟩
  rw [(Ref.best_at _ b h k).2, unflat_at, row_scores]
  unfold arrI
  simp only [ix2_0, ix2_1, rowB_at, rowH_at]

end Results

end Cert.Router.Kernel

namespace Cert.Proof

open Cert.Router Cert.Router.Kernel Idealize.ShloMosaic Idealize.SL.Sem

/-- From finite arguments the kernel and the reference end with the same three results. -/
theorem algebraic : Cert.algebraic_KernelIdeal_ReferenceIdeal_pre_finite (hPre_finite := finite_facts) := fun m g m' g' hpre hargs => by
  have hr : ∀ c, Reals (argU m c) (argM m c) (argE m c) (argQ m c) (argK m c) (argV m c) := fun c =>
    reals_of_finite _ _ _ _ _ _ _ (congrFun (hpre c) fun d => d.elim0)
  refine ⟨_, _, _, run_value m g hr,
    (θ_run Cert.ReferenceIdeal.defs _ _).mono (fun r h c => ?_) (Cert.ReferenceIdeal.Value.run (F := Ideal) m' g')⟩
  obtain ⟨a0, a1, a2, a3, a4, a5⟩ := hargs c
  have hs : Ref.scoresOf m' c = Ref.scores (argU m c) (argM m c) (argE m c) (argQ m c) (argK m c) := by
    unfold Ref.scoresOf; rw [a0, a1, a2, a3, a4]
  obtain ⟨h0, h1, h2, hrest⟩ := h c
  refine ⟨h0.trans ?_, h1.trans ?_, h2.trans ?_, hrest⟩
  · rw [Ref.res_result, hs, a1, a5]; exact same_r (hr c)
  · rw [Ref.res_weights, hs]; exact same_a (hr c)
  · refine Eq.trans (b := (Ref.best (Ref.scoresOf m' c)).2) rfl ?_
    rw [hs]; exact same_i

end Cert.Proof

end
-- ==== Proof.lean ====
/-
  The certificate: every claim of `Cert.Claim`, put together from the modules that prove them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame
public import proofs.«01_k».proof.Proof.Algebraic

@[expose] public section

noncomputable section

namespace Cert.Proof

open Idealize.ShloMosaic Idealize.SL.Sem

/-- The reference runs to its end; its arguments end as they began; it has no counters to leave above zero. -/
theorem reference_frame : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- Every claim. -/
theorem claim : Cert.Claim :=
  ⟨Cert.Kernel.Gen.facts, Cert.KernelIdeal.Gen.facts, Cert.ReferenceIdeal.Gen.facts, Cert.Router.finite_facts,
    kernel_frame, kernelIdeal_frame, fun m g _ => kernelIdeal_frame m g trivial, reference_frame,
    fun m g _ => reference_frame m g trivial, trivial, algebraic⟩

end Cert.Proof

end
